-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_experts [hPre_distinct_experts : Cert.Pre_distinct_experts.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_experts [hPre_distinct_experts : Cert.Pre_distinct_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_distinct_experts [hKernelIdeal : Cert.KernelIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_distinct_experts [hReferenceIdeal : Cert.ReferenceIdeal.Facts] [hPre_distinct_experts : Cert.Pre_distinct_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_distinct_experts [hKernelIdeal : Cert.KernelIdeal.Facts] [hReferenceIdeal : Cert.ReferenceIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_distinct_experts : Cert.Pre_distinct_experts.Facts),
    quiescent_Kernel (hKernel := hKernel)
    ∧ quiescent_KernelIdeal (hKernelIdeal := hKernelIdeal)
    ∧ quiescent_KernelIdeal_pre_distinct_experts (hKernelIdeal := hKernelIdeal) (hPre_distinct_experts := hPre_distinct_experts)
    ∧ quiescent_ReferenceIdeal (hReferenceIdeal := hReferenceIdeal)
    ∧ quiescent_ReferenceIdeal_pre_distinct_experts (hReferenceIdeal := hReferenceIdeal) (hPre_distinct_experts := hPre_distinct_experts)
    ∧ preserves_Kernel_KernelIdeal
    ∧ algebraic_KernelIdeal_ReferenceIdeal_pre_distinct_experts (hKernelIdeal := hKernelIdeal) (hReferenceIdeal := hReferenceIdeal) (hPre_distinct_experts := hPre_distinct_experts)
-- ==== Pre_distinct_experts.lean ====
abbrev S256x1x3072 : Shape := ⟨3, ![256, 1, 3072]⟩
abbrev S256x1x2 : Shape := ⟨3, ![256, 1, 2]⟩
abbrev S4x2816x3072 : Shape := ⟨3, ![4, 2816, 3072]⟩
abbrev S4x2816 : Shape := ⟨2, ![4, 2816]⟩
abbrev S4x3072x1408 : Shape := ⟨3, ![4, 3072, 1408]⟩
abbrev S4x3072 : Shape := ⟨2, ![4, 3072]⟩
abbrev S256x1x1 : Shape := ⟨3, ![256, 1, 1]⟩
abbrev S256x1 : Shape := ⟨2, ![256, 1]⟩

class Facts : Prop where
  slices_S256x1x2_S256x1x1_0_0_0 : S256x1x2.Slices ![0, 0, 0] S256x1x1
  shapeCasts_S256x1x1_S256x1 : S256x1x1.ShapeCasts S256x1
  slices_S256x1x2_S256x1x1_0_0_1 : S256x1x2.Slices ![0, 0, 1] S256x1x1

variable [Facts]

def fn {F : FTy → Type} [FloatOps F] (main_arg0 : FVec F S256x1x3072 .bf16) (main_arg1 : IVec S256x1x2 32) (main_arg2 : FVec F S256x1x2 .f32) (main_arg3 : IVec S4x2816x3072 8) (main_arg4 : FVec F S4x2816 .f32) (main_arg5 : IVec S4x3072x1408 8) (main_arg6 : FVec F S4x3072 .f32) : IVec S256x1 1 :=
  let main_v0 : IVec S256x1x1 32 := (extractStridedSlice S256x1x1 ![0, 0, 0] · slices_S256x1x2_S256x1x1_0_0_0) main_arg1
  let main_v1 : IVec S256x1 32 := shapeCast S256x1 main_v0 shapeCasts_S256x1x1_S256x1
  let main_v2 : IVec S256x1x1 32 := (extractStridedSlice S256x1x1 ![0, 0, 1] · slices_S256x1x2_S256x1x1_0_0_1) main_arg1
  let main_v3 : IVec S256x1 32 := shapeCast S256x1 main_v2 shapeCasts_S256x1x1_S256x1
  let main_v4 : IVec S256x1 1 := cmpi .ne main_v1 main_v3
  main_v4
-- ==== Kernel.lean ====
abbrev S256x1x3072 : Shape := ⟨3, ![256, 1, 3072]⟩
abbrev S256x1x2 : Shape := ⟨3, ![256, 1, 2]⟩
abbrev S4x2816x3072 : Shape := ⟨3, ![4, 2816, 3072]⟩
abbrev S4x2816 : Shape := ⟨2, ![4, 2816]⟩
abbrev S4x3072x1408 : Shape := ⟨3, ![4, 3072, 1408]⟩
abbrev S4x3072 : Shape := ⟨2, ![4, 3072]⟩
abbrev S256x2 : Shape := ⟨2, ![256, 2]⟩
abbrev S2x256 : Shape := ⟨2, ![2, 256]⟩
abbrev S4x2816x1 : Shape := ⟨3, ![4, 2816, 1]⟩
abbrev S4x3072x1 : Shape := ⟨3, ![4, 3072, 1]⟩
abbrev S256x3072 : Shape := ⟨2, ![256, 3072]⟩
abbrev S1x2816x1 : Shape := ⟨3, ![1, 2816, 1]⟩
abbrev S1x3072x1 : Shape := ⟨3, ![1, 3072, 1]⟩
abbrev S1x2816x3072 : Shape := ⟨3, ![1, 2816, 3072]⟩
abbrev S1x3072x1408 : Shape := ⟨3, ![1, 3072, 1408]⟩
abbrev S2x704x128 : Shape := ⟨3, ![2, 704, 128]⟩
abbrev S1408x256 : Shape := ⟨2, ![1408, 256]⟩
abbrev S3072x256 : Shape := ⟨2, ![3072, 256]⟩
abbrev S256 : Shape := ⟨1, ![256]⟩
abbrev S1x256 : Shape := ⟨2, ![1, 256]⟩
abbrev S1x2x256 : Shape := ⟨3, ![1, 2, 256]⟩
abbrev S1 : Shape := ⟨1, ![1]⟩
abbrev S1x1x1 : Shape := ⟨3, ![1, 1, 1]⟩
abbrev S1x704x3072 : Shape := ⟨3, ![1, 704, 3072]⟩
abbrev S704x3072 : Shape := ⟨2, ![704, 3072]⟩
abbrev S704x256 : Shape := ⟨2, ![704, 256]⟩
abbrev S1x704x1 : Shape := ⟨3, ![1, 704, 1]⟩
abbrev S704x1 : Shape := ⟨2, ![704, 1]⟩
abbrev S704x128 : Shape := ⟨2, ![704, 128]⟩
abbrev S1x704x128 : Shape := ⟨3, ![1, 704, 128]⟩
abbrev S1x352x128 : Shape := ⟨3, ![1, 352, 128]⟩
abbrev S352x128 : Shape := ⟨2, ![352, 128]⟩
abbrev S1x768x1408 : Shape := ⟨3, ![1, 768, 1408]⟩
abbrev S768x1408 : Shape := ⟨2, ![768, 1408]⟩
abbrev S768x256 : Shape := ⟨2, ![768, 256]⟩
abbrev S1x768x1 : Shape := ⟨3, ![1, 768, 1]⟩
abbrev S768x1 : Shape := ⟨2, ![768, 1]⟩

abbrev nBuf : Space → Nat
  | .hbm => 15
  | .vmem => 15
  | .smem => 0
  | _ => 0

abbrev bufTy : (tb : Table) → Fin (tcTables nBuf tb) → BufTy
  | .hbm, ⟨0, _⟩ => ⟨S256x1x3072, .bf16⟩
  | .hbm, ⟨1, _⟩ => ⟨S256x1x2, .i32⟩
  | .hbm, ⟨2, _⟩ => ⟨S256x1x2, .f32⟩
  | .hbm, ⟨3, _⟩ => ⟨S4x2816x3072, .i8⟩
  | .hbm, ⟨4, _⟩ => ⟨S4x2816, .f32⟩
  | .hbm, ⟨5, _⟩ => ⟨S4x3072x1408, .i8⟩
  | .hbm, ⟨6, _⟩ => ⟨S4x3072, .f32⟩
  | .hbm, ⟨7, _⟩ => ⟨S256x2, .i32⟩
  | .hbm, ⟨8, _⟩ => ⟨S2x256, .i32⟩
  | .hbm, ⟨9, _⟩ => ⟨S256x2, .f32⟩
  | .hbm, ⟨10, _⟩ => ⟨S2x256, .f32⟩
  | .hbm, ⟨11, _⟩ => ⟨S4x2816x1, .f32⟩
  | .hbm, ⟨12, _⟩ => ⟨S4x3072x1, .f32⟩
  | .hbm, ⟨13, _⟩ => ⟨S256x3072, .bf16⟩
  | .hbm, ⟨14, _⟩ => ⟨S256x3072, .bf16⟩
  | .local _ .vmem, ⟨0, _⟩ => ⟨S2x256, .i32⟩
  | .local _ .vmem, ⟨1, _⟩ => ⟨S2x256, .f32⟩
  | .local _ .vmem, ⟨2, _⟩ => ⟨S1x2816x1, .f32⟩
  | .local _ .vmem, ⟨3, _⟩ => ⟨S1x2816x1, .f32⟩
  | .local _ .vmem, ⟨4, _⟩ => ⟨S1x3072x1, .f32⟩
  | .local _ .vmem, ⟨5, _⟩ => ⟨S1x3072x1, .f32⟩
  | .local _ .vmem, ⟨6, _⟩ => ⟨S256x3072, .bf16⟩
  | .local _ .vmem, ⟨7, _⟩ => ⟨S1x2816x3072, .i8⟩
  | .local _ .vmem, ⟨8, _⟩ => ⟨S1x2816x3072, .i8⟩
  | .local _ .vmem, ⟨9, _⟩ => ⟨S1x3072x1408, .i8⟩
  | .local _ .vmem, ⟨10, _⟩ => ⟨S1x3072x1408, .i8⟩
  | .local _ .vmem, ⟨11, _⟩ => ⟨S256x3072, .bf16⟩
  | .local _ .vmem, ⟨12, _⟩ => ⟨S2x704x128, .f32⟩
  | .local _ .vmem, ⟨13, _⟩ => ⟨S1408x256, .bf16⟩
  | .local _ .vmem, ⟨14, _⟩ => ⟨S3072x256, .f32⟩
  | _, _ => ⟨S256x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v30 : BitVec 1 := Scalar.cmpi .eq arg0 c3_i32
  let v31 : BitVec 32 := Scalar.extui v30
  let c0_i32_10 : BitVec 32 := 0#32
  let v32 : BitVec 1 := Scalar.cmpi .ne v31 c0_i32_10
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2816x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3072x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2816x3072 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3072x1408 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S256x1x3072 : Shape := ⟨3, ![256, 1, 3072]⟩
abbrev S256x1x2 : Shape := ⟨3, ![256, 1, 2]⟩
abbrev S4x2816x3072 : Shape := ⟨3, ![4, 2816, 3072]⟩
abbrev S4x2816 : Shape := ⟨2, ![4, 2816]⟩
abbrev S4x3072x1408 : Shape := ⟨3, ![4, 3072, 1408]⟩
abbrev S4x3072 : Shape := ⟨2, ![4, 3072]⟩
abbrev S256x3072 : Shape := ⟨2, ![256, 3072]⟩
abbrev S256x2 : Shape := ⟨2, ![256, 2]⟩
abbrev S4x1408x3072 : Shape := ⟨3, ![4, 1408, 3072]⟩
abbrev S4x1408 : Shape := ⟨2, ![4, 1408]⟩
abbrev S1x1408x3072 : Shape := ⟨3, ![1, 1408, 3072]⟩
abbrev S1408x3072 : Shape := ⟨2, ![1408, 3072]⟩
abbrev S3072x1408 : Shape := ⟨2, ![3072, 1408]⟩
abbrev S256x1408 : Shape := ⟨2, ![256, 1408]⟩
abbrev S1x1408 : Shape := ⟨2, ![1, 1408]⟩
abbrev S1x3072x1408 : Shape := ⟨3, ![1, 3072, 1408]⟩
abbrev S1x3072 : Shape := ⟨2, ![1, 3072]⟩
abbrev S256x1 : Shape := ⟨2, ![256, 1]⟩

abbrev nBuf : Space → Nat
  | .hbm => 15
  | .vmem => 10
  | .smem => 0
  | _ => 0

abbrev bufTy : (tb : Table) → Fin (tcTables nBuf tb) → BufTy
  | .hbm, ⟨0, _⟩ => ⟨S256x1x3072, .bf16⟩
  | .hbm, ⟨1, _⟩ => ⟨S256x1x2, .i32⟩
  | .hbm, ⟨2, _⟩ => ⟨S256x1x2, .f32⟩
  | .hbm, ⟨3, _⟩ => ⟨S4x2816x3072, .i8⟩
  | .hbm, ⟨4, _⟩ => ⟨S4x2816, .f32⟩
  | .hbm, ⟨5, _⟩ => ⟨S4x3072x1408, .i8⟩
  | .hbm, ⟨6, _⟩ => ⟨S4x3072, .f32⟩
  | .hbm, ⟨7, _⟩ => ⟨S256x3072, .bf16⟩
  | .hbm, ⟨8, _⟩ => ⟨S256x2, .i32⟩
  | .hbm, ⟨9, _⟩ => ⟨S256x2, .f32⟩
  | .hbm, ⟨10, _⟩ => ⟨S4x1408x3072, .i8⟩
  | .hbm, ⟨11, _⟩ => ⟨S4x1408x3072, .i8⟩
  | .hbm, ⟨12, _⟩ => ⟨S4x1408, .f32⟩
  | .hbm, ⟨13, _⟩ => ⟨S4x1408, .f32⟩
  | .hbm, ⟨14, _⟩ => ⟨S256x3072, .bf16⟩
  | .local _ .vmem, ⟨0, _⟩ => ⟨S256x3072, .bf16⟩
  | .local _ .vmem, ⟨1, _⟩ => ⟨S256x2, .i32⟩
  | .local _ .vmem, ⟨2, _⟩ => ⟨S256x2, .f32⟩
  | .local _ .vmem, ⟨3, _⟩ => ⟨S4x1408x3072, .i8⟩
  | .local _ .vmem, ⟨4, _⟩ => ⟨S4x1408x3072, .i8⟩
  | .local _ .vmem, ⟨5, _⟩ => ⟨S4x1408, .f32⟩
  | .local _ .vmem, ⟨6, _⟩ => ⟨S4x1408, .f32⟩
  | .local _ .vmem, ⟨7, _⟩ => ⟨S4x3072x1408, .i8⟩
  | .local _ .vmem, ⟨8, _⟩ => ⟨S4x3072, .f32⟩
  | .local _ .vmem, ⟨9, _⟩ => ⟨S256x3072, .bf16⟩
  | _, _ => ⟨S256x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1408x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1408x3072 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x3072x1408 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Layer.lean ====
/-
  THE LAYER'S MATHEMATICS, over extended reals and plain coordinates: what one expert's two-layer network gives a token
  (`ffn`), and the two ways of adding a token's experts up: choice by choice (`byChoice`, the reference) and expert by
  expert (`byExpert`, the kernel). For two different choices they are equal (`byExpert_eq`).
-/
module

public import Idealize.ShloMosaic.Lib.Pointwise

@[expose] public section

noncomputable section

namespace Cert.Layer

open Idealize.ShloMosaic

/-- One projection of a token: its inner product with a row of weights, times the row's scale. -/
def proj (x : Fin 3072 → EReal) (w : Fin 3072 → EReal) (s : EReal) : EReal := (∑ k, x k * w k) * s

/-- The gated unit: `gate · logistic(gate) · up`. -/
def gated (g u : EReal) : EReal := g * Ideal.logistic g * u

/-- One expert's network at one token and one output coordinate: the gated units of the token's gate and up projections
    against the output coordinate's row of the second weights, times its scale. -/
def ffn (x : Fin 3072 → EReal) (wg wu : Fin 1408 → Fin 3072 → EReal) (sg su : Fin 1408 → EReal) (w2 : Fin 1408 → EReal) (s2 : EReal) : EReal :=
  (∑ f, gated (proj x (wg f) (sg f)) (proj x (wu f) (su f)) * w2 f) * s2

/-- A weight as the layer multiplies with it: the integer the byte stands for, exactly. -/
abbrev weight (b : BitVec 8) : EReal := FloatOps.sitofp (F := Ideal) .bf16 b

/-- The row of the interleaved first weights that holds gate `f`, -/
def gateRow (f : Fin 1408) : Fin 2816 := ⟨2 * f.val, by omega⟩
/-- and the one that holds up-projection `f`. -/
def upRow (f : Fin 1408) : Fin 2816 := ⟨2 * f.val + 1, by omega⟩

/-- EXPERT `e` AT TOKEN `t`, OUTPUT COORDINATE `n`, of the layer's argument arrays. -/
def expert (X : (⟨3, ![256, 1, 3072]⟩ : Shape).Idx → EReal) (W13 : (⟨3, ![4, 2816, 3072]⟩ : Shape).Idx → BitVec 8)
    (S13 : (⟨2, ![4, 2816]⟩ : Shape).Idx → EReal) (W2 : (⟨3, ![4, 3072, 1408]⟩ : Shape).Idx → BitVec 8)
    (S2 : (⟨2, ![4, 3072]⟩ : Shape).Idx → EReal) (e : Fin 4) (t : Fin 256) (n : Fin 3072) : EReal :=
  ffn (fun k => X (ix3 t 0 k)) (fun f k => weight (W13 (ix3 e (gateRow f) k))) (fun f k => weight (W13 (ix3 e (upRow f) k)))
    (fun f => S13 (ix2 e (gateRow f))) (fun f => S13 (ix2 e (upRow f))) (fun f => weight (W2 (ix3 e n f))) (S2 (ix2 e n))

/-- The value of the expert that `id` names, 0 if it names none. -/
def pick (E : Fin 4 → EReal) (id : BitVec 32) : EReal :=
  if id = 3#32 then E 3 else if id = 2#32 then E 2 else if id = 1#32 then E 1 else if id = 0#32 then E 0 else 0

/-- CHOICE BY CHOICE, as the reference adds up: each of the token's two experts times its weight. -/
def byChoice (E : Fin 4 → EReal) (id₀ id₁ : BitVec 32) (w₀ w₁ : EReal) : EReal :=
  pick E id₀ * w₀ + pick E id₁ * w₁

/-- One expert's part of the sum, as the kernel adds it: the expert's value times the sum of the token's weights for the
    choices that name it, and nothing if neither does. -/
def part (y : EReal) (id₀ id₁ : BitVec 32) (w₀ w₁ : EReal) (e : BitVec 32) : EReal :=
  if id₀ = e ∨ id₁ = e then y * ((if id₀ = e then w₀ else 0) + (if id₁ = e then w₁ else 0)) else 0

/-- EXPERT BY EXPERT, as the kernel adds up. -/
def byExpert (E : Fin 4 → EReal) (id₀ id₁ : BitVec 32) (w₀ w₁ : EReal) : EReal :=
  part (E 0) id₀ id₁ w₀ w₁ 0#32 + part (E 1) id₀ id₁ w₀ w₁ 1#32 + part (E 2) id₀ id₁ w₀ w₁ 2#32 + part (E 3) id₀ id₁ w₀ w₁ 3#32

/-- With two different choices no expert is named twice, so each part is a sum of one product per choice. -/
theorem part_eq (y : EReal) {id₀ id₁ : BitVec 32} (h : id₀ ≠ id₁) (w₀ w₁ : EReal) (e : BitVec 32) :
    part y id₀ id₁ w₀ w₁ e = (if id₀ = e then y * w₀ else 0) + (if id₁ = e then y * w₁ else 0) := by
  unfold part
  by_cases h0 : id₀ = e
  · have h1 : ¬id₁ = e := fun h1 => h (h0.trans h1.symm)
    simp [h0, h1]
  · by_cases h1 : id₁ = e <;> simp [h0, h1]

/-- One choice, looked for among the experts one after another. -/
theorem pick_mul (E : Fin 4 → EReal) (id : BitVec 32) (w : EReal) :
    pick E id * w = (if id = 0#32 then E 0 * w else 0) + (if id = 1#32 then E 1 * w else 0)
      + (if id = 2#32 then E 2 * w else 0) + (if id = 3#32 then E 3 * w else 0) := by
  unfold pick
  by_cases h3 : id = 3#32
  · subst h3; simp
  by_cases h2 : id = 2#32
  · subst h2; simp
  by_cases h1 : id = 1#32
  · subst h1; simp
  by_cases h0 : id = 0#32
  · subst h0; simp
  simp [h0, h1, h2, h3]

/-- THE EQUATION: for two different choices the two sums agree, whatever the values. -/
theorem byExpert_eq (E : Fin 4 → EReal) {id₀ id₁ : BitVec 32} (h : id₀ ≠ id₁) (w₀ w₁ : EReal) :
    byExpert E id₀ id₁ w₀ w₁ = byChoice E id₀ id₁ w₀ w₁ := by
  unfold byExpert byChoice
  rw [part_eq _ h, part_eq _ h, part_eq _ h, part_eq _ h, pick_mul, pick_mul]
  abel

end Cert.Layer

end
-- ==== Proof.Hidden.lean ====
/-
  THE KERNEL'S TWO SCRATCH BUFFERS INSIDE ONE GRID POINT, read back: the even and odd rows of the interleaved
  projections, and the hidden activations assembled from eight pieces.
-/
module

public import proofs.«01_k».proof.Proof.Layer
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Layer

open Cert.KernelIdeal Cert.KernelIdeal.Gen
open Idealize.ShloMosaic Idealize.ShloMosaic.TcCoe Idealize.SL.Sem
open Cert.Layer (proj gated weight gateRow upRow)

variable {κ : Kind} {sp : Space}

/-- Row `2r` and row `2r + 1` of a chunk of 704. -/
def row0 (r : Fin 352) : Fin 704 := ⟨2 * r.val, by omega⟩
def row1 (r : Fin 352) : Fin 704 := ⟨2 * r.val + 1, by omega⟩

/-- Even rows of lane half 0: the store into that half, at row `2r`. -/
theorem half00 (v : View sig κ sp S2x704x128 .f32) (P₁ P₀ : S1x704x128.Idx → EReal) (L : List (View.Piece (Elt Ideal) S2x704x128 .f32)) (h₁ h₀ hb) :
    v.readCov (⟨Rect.unit ![1, 0, 0] ![1, 704, 128] h₁, P₁⟩ :: ⟨Rect.unit ![0, 0, 0] ![1, 704, 128] h₀, P₀⟩ :: L)
        ⟨![0, 0, 0], ![1, 352, 128], ![1, 2, 1], hb⟩
      = fun j : S1x352x128.Idx => P₀ (ix3 0 (row0 (j 1)) (j 2)) := by
  rw [View.readCov_eq_canon']
  funext j
  rw [View.canon_cons_of_not_mem _ _ (Rect.not_mem_set_of_axis _ _ 0 1 1 rfl rfl rfl (.inl (by have : (j 0).val < 1 := (j 0).isLt; show 0 + 1 * (j 0).val < 1; omega)))]
  have hj : (LoadRect.idx ⟨![0, 0, 0], ![1, 352, 128], ![1, 2, 1], hb⟩ j : S2x704x128.Idx)
      = (Rect.unit ![0, 0, 0] ![1, 704, 128] h₀).emb (ix3 0 (row0 (j 1)) (j 2)) := by
    have h0 : (j 0).val < 1 := (j 0).isLt
    funext a
    apply Fin.ext
    fin_cases a
    · show 0 + 1 * (j 0).val = 0 + 1 * 0
      omega
    · show 0 + 2 * (j 1).val = 0 + 1 * (2 * (j 1).val)
      omega
    · show 0 + 1 * (j 2).val = 0 + 1 * (j 2).val
      rfl
  rw [hj]
  exact View.canon_cons_emb _ _ _ _

/-- Odd rows of lane half 0: the store into that half, at row `2r + 1`. -/
theorem half01 (v : View sig κ sp S2x704x128 .f32) (P₁ P₀ : S1x704x128.Idx → EReal) (L : List (View.Piece (Elt Ideal) S2x704x128 .f32)) (h₁ h₀ hb) :
    v.readCov (⟨Rect.unit ![1, 0, 0] ![1, 704, 128] h₁, P₁⟩ :: ⟨Rect.unit ![0, 0, 0] ![1, 704, 128] h₀, P₀⟩ :: L)
        ⟨![0, 1, 0], ![1, 352, 128], ![1, 2, 1], hb⟩
      = fun j : S1x352x128.Idx => P₀ (ix3 0 (row1 (j 1)) (j 2)) := by
  rw [View.readCov_eq_canon']
  funext j
  rw [View.canon_cons_of_not_mem _ _ (Rect.not_mem_set_of_axis _ _ 0 1 1 rfl rfl rfl (.inl (by have : (j 0).val < 1 := (j 0).isLt; show 0 + 1 * (j 0).val < 1; omega)))]
  have hj : (LoadRect.idx ⟨![0, 1, 0], ![1, 352, 128], ![1, 2, 1], hb⟩ j : S2x704x128.Idx)
      = (Rect.unit ![0, 0, 0] ![1, 704, 128] h₀).emb (ix3 0 (row1 (j 1)) (j 2)) := by
    have h0 : (j 0).val < 1 := (j 0).isLt
    funext a
    apply Fin.ext
    fin_cases a
    · show 0 + 1 * (j 0).val = 0 + 1 * 0
      omega
    · show 1 + 2 * (j 1).val = 0 + 1 * (2 * (j 1).val + 1)
      omega
    · show 0 + 1 * (j 2).val = 0 + 1 * (j 2).val
      rfl
  rw [hj]
  exact View.canon_cons_emb _ _ _ _

/-- Even rows of lane half 1: the store into that half, at row `2r`. -/
theorem half10 (v : View sig κ sp S2x704x128 .f32) (P₁ P₀ : S1x704x128.Idx → EReal) (L : List (View.Piece (Elt Ideal) S2x704x128 .f32)) (h₁ h₀ hb) :
    v.readCov (⟨Rect.unit ![1, 0, 0] ![1, 704, 128] h₁, P₁⟩ :: ⟨Rect.unit ![0, 0, 0] ![1, 704, 128] h₀, P₀⟩ :: L)
        ⟨![1, 0, 0], ![1, 352, 128], ![1, 2, 1], hb⟩
      = fun j : S1x352x128.Idx => P₁ (ix3 0 (row0 (j 1)) (j 2)) := by
  rw [View.readCov_eq_canon']
  funext j
  have hj : (LoadRect.idx ⟨![1, 0, 0], ![1, 352, 128], ![1, 2, 1], hb⟩ j : S2x704x128.Idx)
      = (Rect.unit ![1, 0, 0] ![1, 704, 128] h₁).emb (ix3 0 (row0 (j 1)) (j 2)) := by
    have h0 : (j 0).val < 1 := (j 0).isLt
    funext a
    apply Fin.ext
    fin_cases a
    · show 1 + 1 * (j 0).val = 1 + 1 * 0
      omega
    · show 0 + 2 * (j 1).val = 0 + 1 * (2 * (j 1).val)
      omega
    · show 0 + 1 * (j 2).val = 0 + 1 * (j 2).val
      rfl
  rw [hj]
  exact View.canon_cons_emb _ _ _ _

/-- Odd rows of lane half 1: the store into that half, at row `2r + 1`. -/
theorem half11 (v : View sig κ sp S2x704x128 .f32) (P₁ P₀ : S1x704x128.Idx → EReal) (L : List (View.Piece (Elt Ideal) S2x704x128 .f32)) (h₁ h₀ hb) :
    v.readCov (⟨Rect.unit ![1, 0, 0] ![1, 704, 128] h₁, P₁⟩ :: ⟨Rect.unit ![0, 0, 0] ![1, 704, 128] h₀, P₀⟩ :: L)
        ⟨![1, 1, 0], ![1, 352, 128], ![1, 2, 1], hb⟩
      = fun j : S1x352x128.Idx => P₁ (ix3 0 (row1 (j 1)) (j 2)) := by
  rw [View.readCov_eq_canon']
  funext j
  have hj : (LoadRect.idx ⟨![1, 1, 0], ![1, 352, 128], ![1, 2, 1], hb⟩ j : S2x704x128.Idx)
      = (Rect.unit ![1, 0, 0] ![1, 704, 128] h₁).emb (ix3 0 (row1 (j 1)) (j 2)) := by
    have h0 : (j 0).val < 1 := (j 0).isLt
    funext a
    apply Fin.ext
    fin_cases a
    · show 1 + 1 * (j 0).val = 1 + 1 * 0
      omega
    · show 1 + 2 * (j 1).val = 0 + 1 * (2 * (j 1).val + 1)
      omega
    · show 0 + 1 * (j 2).val = 0 + 1 * (j 2).val
      rfl
  rw [hj]
  exact View.canon_cons_emb _ _ _ _

/-- A piece stored at a rectangle of a matrix holds the matrix's own elements there, told coordinate by coordinate. -/
theorem piece_of {M N m n a b : ℕ} (hb) (H : Fin M → Fin N → EReal) (P : (⟨2, ![m, n]⟩ : Shape).Idx → EReal)
    (h : ∀ (i : Fin m) (j : Fin n) (hi : a + i.val < M) (hj : b + j.val < N), P (ix2 i j) = H ⟨a + i.val, hi⟩ ⟨b + j.val, hj⟩)
    (x : (⟨2, ![m, n]⟩ : Shape).Idx) :
    P x = H ((Rect.unit (s := ⟨2, ![M, N]⟩) ![a, b] ![m, n] hb).emb x 0) ((Rect.unit (s := ⟨2, ![M, N]⟩) ![a, b] ![m, n] hb).emb x 1) := by
  have hx : x = ix2 (x 0) (x 1) := by funext a; fin_cases a <;> rfl
  have h0 : a + m ≤ M := hb 0
  have h1 : b + n ≤ N := hb 1
  have i0 : (x 0).val < m := (x 0).isLt
  have i1 : (x 1).val < n := (x 1).isLt
  refine (congrArg P hx).trans ((h (x 0) (x 1) (by omega) (by omega)).trans ?_)
  congr 1
  · apply Fin.ext
    show a + (x 0).val = a + 1 * (x 0).val
    omega
  · apply Fin.ext
    show b + (x 1).val = b + 1 * (x 1).val
    omega

/-- THE HIDDEN BUFFER, READ WHOLE: eight stored pieces, each holding `H` on its own rectangle, are `H` everywhere. -/
theorem hidden_read (v : View sig κ sp S1408x256 .bf16) (H : Fin 1408 → Fin 256 → EReal) (P₇ P₆ P₅ P₄ P₃ P₂ P₁ P₀ : S352x128.Idx → EReal) (b₇ b₆ b₅ b₄ b₃ b₂ b₁ b₀) (B)
    (h₇ : ∀ (i : Fin 352) (j : Fin 128) (hi : 1056 + i.val < 1408) (hj : 128 + j.val < 256), P₇ (ix2 i j) = H ⟨1056 + i.val, hi⟩ ⟨128 + j.val, hj⟩)
    (h₆ : ∀ (i : Fin 352) (j : Fin 128) (hi : 1056 + i.val < 1408) (hj : 0 + j.val < 256), P₆ (ix2 i j) = H ⟨1056 + i.val, hi⟩ ⟨0 + j.val, hj⟩)
    (h₅ : ∀ (i : Fin 352) (j : Fin 128) (hi : 704 + i.val < 1408) (hj : 128 + j.val < 256), P₅ (ix2 i j) = H ⟨704 + i.val, hi⟩ ⟨128 + j.val, hj⟩)
    (h₄ : ∀ (i : Fin 352) (j : Fin 128) (hi : 704 + i.val < 1408) (hj : 0 + j.val < 256), P₄ (ix2 i j) = H ⟨704 + i.val, hi⟩ ⟨0 + j.val, hj⟩)
    (h₃ : ∀ (i : Fin 352) (j : Fin 128) (hi : 352 + i.val < 1408) (hj : 128 + j.val < 256), P₃ (ix2 i j) = H ⟨352 + i.val, hi⟩ ⟨128 + j.val, hj⟩)
    (h₂ : ∀ (i : Fin 352) (j : Fin 128) (hi : 352 + i.val < 1408) (hj : 0 + j.val < 256), P₂ (ix2 i j) = H ⟨352 + i.val, hi⟩ ⟨0 + j.val, hj⟩)
    (h₁ : ∀ (i : Fin 352) (j : Fin 128) (hi : 0 + i.val < 1408) (hj : 128 + j.val < 256), P₁ (ix2 i j) = H ⟨0 + i.val, hi⟩ ⟨128 + j.val, hj⟩)
    (h₀ : ∀ (i : Fin 352) (j : Fin 128) (hi : 0 + i.val < 1408) (hj : 0 + j.val < 256), P₀ (ix2 i j) = H ⟨0 + i.val, hi⟩ ⟨0 + j.val, hj⟩) :
    v.readCov (Val := Elt Ideal) [⟨Rect.unit ![1056, 128] ![352, 128] b₇, P₇⟩,
        ⟨Rect.unit ![1056, 0] ![352, 128] b₆, P₆⟩,
        ⟨Rect.unit ![704, 128] ![352, 128] b₅, P₅⟩,
        ⟨Rect.unit ![704, 0] ![352, 128] b₄, P₄⟩,
        ⟨Rect.unit ![352, 128] ![352, 128] b₃, P₃⟩,
        ⟨Rect.unit ![352, 0] ![352, 128] b₂, P₂⟩,
        ⟨Rect.unit ![0, 128] ![352, 128] b₁, P₁⟩,
        ⟨Rect.unit ![0, 0] ![352, 128] b₀, P₀⟩] B
      = fun j => H (B.idx j 0) (B.idx j 1) := by
  rw [View.readCov_eq_canon']
  funext j
  refine View.canon_apply_of_pieces (Val := Elt Ideal) (S := S1408x256) (e := .bf16) (fun y => H (y 0) (y 1)) _ ?_ (B.idx j) ?_
  swap
  · exact View.cover_of_tiledL _ ![352, 128] (by sl_kernel_rfl) _
  refine fun p hp => View.PiecesOf.mem (Val := Elt Ideal) (s := S1408x256) (e := .bf16) (G := fun y => H (y 0) (y 1)) ?_ p hp
  exact ⟨piece_of b₇ H _ h₇, piece_of b₆ H _ h₆, piece_of b₅ H _ h₅, piece_of b₄ H _ h₄, piece_of b₃ H _ h₃, piece_of b₂ H _ h₂, piece_of b₁ H _ h₁, piece_of b₀ H _ h₀, trivial⟩

/-- THE ACCUMULATOR, as four stored pieces leave it: each holding `H` on its own 768 rows, they are `H` everywhere,
    whatever was stored before. -/
theorem acc_read (H : Fin 3072 → Fin 256 → EReal) (P₃ P₂ P₁ P₀ : S768x256.Idx → EReal) (b₃ b₂ b₁ b₀)
    (L : List (View.Piece (Elt Ideal) S3072x256 .f32))
    (h₃ : ∀ (i : Fin 768) (j : Fin 256) (hi : 2304 + i.val < 3072) (hj : 0 + j.val < 256), P₃ (ix2 i j) = H ⟨2304 + i.val, hi⟩ ⟨0 + j.val, hj⟩)
    (h₂ : ∀ (i : Fin 768) (j : Fin 256) (hi : 1536 + i.val < 3072) (hj : 0 + j.val < 256), P₂ (ix2 i j) = H ⟨1536 + i.val, hi⟩ ⟨0 + j.val, hj⟩)
    (h₁ : ∀ (i : Fin 768) (j : Fin 256) (hi : 768 + i.val < 3072) (hj : 0 + j.val < 256), P₁ (ix2 i j) = H ⟨768 + i.val, hi⟩ ⟨0 + j.val, hj⟩)
    (h₀ : ∀ (i : Fin 768) (j : Fin 256) (hi : 0 + i.val < 3072) (hj : 0 + j.val < 256), P₀ (ix2 i j) = H ⟨0 + i.val, hi⟩ ⟨0 + j.val, hj⟩) (d : Fin 3072) (t : Fin 256) :
    View.canon (Val := Elt Ideal) (s := S3072x256) (e := .f32) (⟨Rect.unit ![2304, 0] ![768, 256] b₃, P₃⟩ ::
        ⟨Rect.unit ![1536, 0] ![768, 256] b₂, P₂⟩ ::
        ⟨Rect.unit ![768, 0] ![768, 256] b₁, P₁⟩ ::
        ⟨Rect.unit ![0, 0] ![768, 256] b₀, P₀⟩ :: L) (ix2 d t) = H d t := by
  refine View.canon_append_of_piecesOf (Val := Elt Ideal) (s := S3072x256) (e := .f32) (fun y => H (y 0) (y 1)) L
    [⟨Rect.unit ![2304, 0] ![768, 256] b₃, P₃⟩, ⟨Rect.unit ![1536, 0] ![768, 256] b₂, P₂⟩,
      ⟨Rect.unit ![768, 0] ![768, 256] b₁, P₁⟩, ⟨Rect.unit ![0, 0] ![768, 256] b₀, P₀⟩] ?_ (ix2 d t)
    (View.cover_of_tiledL _ ![768, 256] (by sl_kernel_rfl) _)
  exact ⟨piece_of b₃ H _ h₃, piece_of b₂ H _ h₂, piece_of b₁ H _ h₁, piece_of b₀ H _ h₀, trivial⟩

/-- The same of a load of the whole accumulator. -/
theorem acc_load (v : View sig κ sp S3072x256 .f32) (H : Fin 3072 → Fin 256 → EReal) (P₃ P₂ P₁ P₀ : S768x256.Idx → EReal) (b₃ b₂ b₁ b₀ hb)
    (h₃ : ∀ (i : Fin 768) (j : Fin 256) (hi : 2304 + i.val < 3072) (hj : 0 + j.val < 256), P₃ (ix2 i j) = H ⟨2304 + i.val, hi⟩ ⟨0 + j.val, hj⟩)
    (h₂ : ∀ (i : Fin 768) (j : Fin 256) (hi : 1536 + i.val < 3072) (hj : 0 + j.val < 256), P₂ (ix2 i j) = H ⟨1536 + i.val, hi⟩ ⟨0 + j.val, hj⟩)
    (h₁ : ∀ (i : Fin 768) (j : Fin 256) (hi : 768 + i.val < 3072) (hj : 0 + j.val < 256), P₁ (ix2 i j) = H ⟨768 + i.val, hi⟩ ⟨0 + j.val, hj⟩)
    (h₀ : ∀ (i : Fin 768) (j : Fin 256) (hi : 0 + i.val < 3072) (hj : 0 + j.val < 256), P₀ (ix2 i j) = H ⟨0 + i.val, hi⟩ ⟨0 + j.val, hj⟩)
    (d : Fin 3072) (t : Fin 256) :
    v.readCov (Val := Elt Ideal) [⟨Rect.unit ![2304, 0] ![768, 256] b₃, P₃⟩, ⟨Rect.unit ![1536, 0] ![768, 256] b₂, P₂⟩,
        ⟨Rect.unit ![768, 0] ![768, 256] b₁, P₁⟩, ⟨Rect.unit ![0, 0] ![768, 256] b₀, P₀⟩]
      (Rect.unit (s := S3072x256) ![0, 0] ![3072, 256] hb).toLoadRect (ix2 d t) = H d t := by
  rw [View.readCov_eq_canon']
  have hj : (Rect.unit (s := S3072x256) ![0, 0] ![3072, 256] hb).toLoadRect.idx (ix2 d t) = ix2 d t := by
    funext a
    apply Fin.ext
    fin_cases a
    · show 0 + 1 * d.val = d.val
      omega
    · show 0 + 1 * t.val = t.val
      omega
  refine (congrArg (View.canon (Val := Elt Ideal) (s := S3072x256) (e := .f32) _) hj).trans ?_
  exact acc_read H P₃ P₂ P₁ P₀ b₃ b₂ b₁ b₀ [] h₃ h₂ h₁ h₀ d t

/-- The hidden activation `f` of token `t`: the gated unit of its gate and up projections. -/
abbrev hid (x2 : FVec Ideal S1x2816x1 .f32) (x4 : FVec Ideal S256x3072 .bf16) (x5 : IVec S1x2816x3072 8) (f : Fin 1408) (t : Fin 256) : EReal :=
  gated (proj (fun k => x4 (ix2 t k)) (fun k => weight (x5 (ix3 0 (gateRow f) k))) (x2 (ix3 0 (gateRow f) 0)))
    (proj (fun k => x4 (ix2 t k)) (fun k => weight (x5 (ix3 0 (upRow f) k))) (x2 (ix3 0 (upRow f) 0)))

/-- The gated unit as a stored piece spells it, at rows `a` and `b` of the interleaved weights. -/
theorem hid_eq (x2 : FVec Ideal S1x2816x1 .f32) (x4 : FVec Ideal S256x3072 .bf16) (x5 : IVec S1x2816x3072 8) (f : Fin 1408) (t : Fin 256)
    (a b : Fin 2816) (t' : Fin 256) (ha : a.val = 2 * f.val) (hb : b.val = 2 * f.val + 1) (ht : t'.val = t.val) :
    (∑ k, weight (x5 (ix3 0 a k)) * x4 (ix2 t' k)) * x2 (ix3 0 a 0)
        * Ideal.logistic ((∑ k, weight (x5 (ix3 0 a k)) * x4 (ix2 t' k)) * x2 (ix3 0 a 0))
        * ((∑ k, weight (x5 (ix3 0 b k)) * x4 (ix2 t' k)) * x2 (ix3 0 b 0)) = hid x2 x4 x5 f t := by
  obtain rfl : a = gateRow f := Fin.ext ha
  obtain rfl : b = upRow f := Fin.ext hb
  obtain rfl : t' = t := Fin.ext ht
  simp only [hid, gated, proj, mul_comm (weight _)]

end Cert.KernelIdeal.Layer

end
-- ==== Proof.Block.lean ====
module

public import proofs.«01_k».proof.Proof.Hidden

@[expose] public section

set_option maxRecDepth 16384

noncomputable section

namespace Cert.KernelIdeal.Layer

open Cert.KernelIdeal Cert.KernelIdeal.Gen
open Idealize.ShloMosaic Idealize.ShloMosaic.TcCoe Idealize.SL.Sem
open Cert.Layer (ffn weight)

/-- WHAT ONE GRID POINT ADDS to the accumulator at output coordinate `d`, token `t`: for a token routed to the point's
    expert, the expert's network times the token's weight for it; for any other token nothing. -/
abbrev term (i : grid0.Coords) (x0 : IVec S2x256 32) (x1 : FVec Ideal S2x256 .f32) (x2 : FVec Ideal S1x2816x1 .f32) (x3 : FVec Ideal S1x3072x1 .f32)
    (x4 : FVec Ideal S256x3072 .bf16) (x5 : IVec S1x2816x3072 8) (x6 : IVec S1x3072x1408 8) (d : Fin 3072) (t : Fin 256) : EReal :=
  Scalar.select (k0_pay3 (F := Ideal) i x0 (ix2 0 t))
    ((∑ f, hid x2 x4 x5 f t * weight (x6 (ix3 0 d f))) * x3 (ix3 0 d 0) * k0_pay2 (F := Ideal) i x0 x1 (ix2 0 t)) 0

/-- The first point, if some token chose its expert, leaves its own term: it clears the accumulator first. -/
theorem acc_A (c : Dev nD) (i : grid0.Coords) (arg1 : Memref sig .tc .vmem S2x256 .i32) (harg1 : arg1.IsWhole) (arg2 : Memref sig .tc .vmem S2x256 .f32) (harg2 : arg2.IsWhole) (arg3 : Memref sig .tc .vmem S1x2816x1 .f32) (harg3 : arg3.IsWhole) (arg4 : Memref sig .tc .vmem S1x3072x1 .f32) (harg4 : arg4.IsWhole) (arg5 : Memref sig .tc .vmem S256x3072 .bf16) (harg5 : arg5.IsWhole) (arg6 : Memref sig .tc .vmem S1x2816x3072 .i8) (harg6 : arg6.IsWhole) (arg7 : Memref sig .tc .vmem S1x3072x1408 .i8) (harg7 : arg7.IsWhole) (arg8 : Memref sig .tc .vmem S256x3072 .bf16) (harg8 : arg8.IsWhole) (arg9 : Memref sig .tc .vmem S2x704x128 .f32) (harg9 : arg9.IsWhole) (arg10 : Memref sig .tc .vmem S1408x256 .bf16) (harg10 : arg10.IsWhole) (arg11 : Memref sig .tc .vmem S3072x256 .f32) (harg11 : arg11.IsWhole) (hc0 : cond0_0 i) (hc2 : ¬cond0_2 i)
    (x0 : Vec Ideal S2x256 .i32) (x1 : Vec Ideal S2x256 .f32) (x2 : Vec Ideal S1x2816x1 .f32) (x3 : Vec Ideal S1x3072x1 .f32) (x4 : Vec Ideal S256x3072 .bf16) (x5 : Vec Ideal S1x2816x3072 .i8) (x6 : Vec Ideal S1x3072x1408 .i8) (hc1 : cond0_1 i (arg1.view.readAt (Elt Ideal) (Rect.unit (s := S2x256) ![0, 0] S2x256.size inb_S2x256_S2x256_0_0).toLoadRect (harg1.unread x0))) (d : Fin 3072) (t : Fin 256) :
    sout0_A_2 c i arg1 harg1 arg2 harg2 arg3 harg3 arg4 harg4 arg5 harg5 arg6 harg6 arg7 harg7 arg8 harg8 arg9 harg9 arg10 harg10 arg11 harg11 hc0 hc2 x0 x1 x2 x3 x4 x5 x6 hc1 (ix2 d t) = term i x0 x1 x2 x3 x4 x5 x6 d t := by
  unfold sout0_A_2
  frame_out
  simp only [half00, half01, half10, half11]
  rw [hidden_read arg10.view (hid x2 x4 x5)]
  rotate_left
  · intro r t' hi hj
    pointwise [k0_pay32, k0_pay30, k0_pay28, k0_pay27, row0, row1]
    rw [← hid_eq x2 x4 x5 ⟨1056 + r.val, by omega⟩ ⟨128 + t'.val, by omega⟩ ⟨2112 + 2 * r.val, by omega⟩ ⟨2112 + (2 * r.val + 1), by omega⟩ ⟨128 + t'.val, by omega⟩ (by dsimp only; omega) (by dsimp only; omega) rfl]
  · intro r t' hi hj
    pointwise [k0_pay31, k0_pay29, k0_pay28, k0_pay27, row0, row1]
    rw [← hid_eq x2 x4 x5 ⟨1056 + r.val, by omega⟩ ⟨t'.val, by omega⟩ ⟨2112 + 2 * r.val, by omega⟩ ⟨2112 + (2 * r.val + 1), by omega⟩ ⟨t'.val, by omega⟩ (by dsimp only; omega) (by dsimp only; omega) rfl]
  · intro r t' hi hj
    pointwise [k0_pay26, k0_pay24, k0_pay23, k0_pay21, row0, row1]
    rw [← hid_eq x2 x4 x5 ⟨704 + r.val, by omega⟩ ⟨128 + t'.val, by omega⟩ ⟨1408 + 2 * r.val, by omega⟩ ⟨1408 + (2 * r.val + 1), by omega⟩ ⟨128 + t'.val, by omega⟩ (by dsimp only; omega) (by dsimp only; omega) rfl]
  · intro r t' hi hj
    pointwise [k0_pay25, k0_pay22, k0_pay21, row0, row1]
    rw [← hid_eq x2 x4 x5 ⟨704 + r.val, by omega⟩ ⟨t'.val, by omega⟩ ⟨1408 + 2 * r.val, by omega⟩ ⟨1408 + (2 * r.val + 1), by omega⟩ ⟨t'.val, by omega⟩ (by dsimp only; omega) (by dsimp only; omega) rfl]
  · intro r t' hi hj
    pointwise [k0_pay20, k0_pay16, k0_pay14, row0, row1]
    rw [← hid_eq x2 x4 x5 ⟨352 + r.val, by omega⟩ ⟨128 + t'.val, by omega⟩ ⟨704 + 2 * r.val, by omega⟩ ⟨704 + (2 * r.val + 1), by omega⟩ ⟨128 + t'.val, by omega⟩ (by dsimp only; omega) (by dsimp only; omega) rfl]
  · intro r t' hi hj
    pointwise [k0_pay19, k0_pay18, k0_pay17, k0_pay15, k0_pay14, row0, row1]
    rw [← hid_eq x2 x4 x5 ⟨352 + r.val, by omega⟩ ⟨t'.val, by omega⟩ ⟨704 + 2 * r.val, by omega⟩ ⟨704 + (2 * r.val + 1), by omega⟩ ⟨t'.val, by omega⟩ (by dsimp only; omega) (by dsimp only; omega) rfl]
  · intro r t' hi hj
    pointwise [k0_pay13, k0_pay12, k0_pay10, k0_pay8, row0, row1]
    rw [← hid_eq x2 x4 x5 ⟨r.val, by omega⟩ ⟨128 + t'.val, by omega⟩ ⟨2 * r.val, by omega⟩ ⟨2 * r.val + 1, by omega⟩ ⟨128 + t'.val, by omega⟩ rfl rfl rfl]
  · intro r t' hi hj
    pointwise [k0_pay11, k0_pay9, k0_pay8, row0, row1]
    rw [← hid_eq x2 x4 x5 ⟨r.val, by omega⟩ ⟨t'.val, by omega⟩ ⟨2 * r.val, by omega⟩ ⟨2 * r.val + 1, by omega⟩ ⟨t'.val, by omega⟩ rfl rfl rfl]
  simp (disch := decide) only [↓View.readCov_skip, ↓View.readCov_fill]
  refine acc_read (fun d t => term i x0 x1 x2 x3 x4 x5 x6 d t) _ _ _ _ _ _ _ _ _ ?_ ?_ ?_ ?_ d t
  · intro r t' hi hj
    pointwise [k0_pay6, k0_pay38, k0_pay4, term]
    simp only [weight, mul_comm (hid _ _ _ _ _)]
  · intro r t' hi hj
    pointwise [k0_pay37, k0_pay4, term]
    simp only [weight, mul_comm (hid _ _ _ _ _)]
  · intro r t' hi hj
    pointwise [k0_pay36, k0_pay34, k0_pay35, k0_pay4, term]
    simp only [weight, mul_comm (hid _ _ _ _ _)]
  · intro r t' hi hj
    pointwise [k0_pay33, k0_pay4, term]
    simp only [weight, mul_comm (hid _ _ _ _ _)]

/-- If no token chose its expert, the first point leaves the cleared accumulator. -/
theorem acc_B (c : Dev nD) (i : grid0.Coords) (arg1 : Memref sig .tc .vmem S2x256 .i32) (harg1 : arg1.IsWhole) (arg2 : Memref sig .tc .vmem S2x256 .f32) (harg2 : arg2.IsWhole) (arg3 : Memref sig .tc .vmem S1x2816x1 .f32) (harg3 : arg3.IsWhole) (arg4 : Memref sig .tc .vmem S1x3072x1 .f32) (harg4 : arg4.IsWhole) (arg5 : Memref sig .tc .vmem S256x3072 .bf16) (harg5 : arg5.IsWhole) (arg6 : Memref sig .tc .vmem S1x2816x3072 .i8) (harg6 : arg6.IsWhole) (arg7 : Memref sig .tc .vmem S1x3072x1408 .i8) (harg7 : arg7.IsWhole) (arg8 : Memref sig .tc .vmem S256x3072 .bf16) (harg8 : arg8.IsWhole) (arg9 : Memref sig .tc .vmem S2x704x128 .f32) (harg9 : arg9.IsWhole) (arg10 : Memref sig .tc .vmem S1408x256 .bf16) (harg10 : arg10.IsWhole) (arg11 : Memref sig .tc .vmem S3072x256 .f32) (harg11 : arg11.IsWhole) (hc0 : cond0_0 i) (hc2 : ¬cond0_2 i)
    (x0 : Vec Ideal S2x256 .i32) (x1 : Vec Ideal S2x256 .f32) (x2 : Vec Ideal S1x2816x1 .f32) (x3 : Vec Ideal S1x3072x1 .f32) (x4 : Vec Ideal S256x3072 .bf16) (x5 : Vec Ideal S1x2816x3072 .i8) (x6 : Vec Ideal S1x3072x1408 .i8) (hc1 : ¬cond0_1 i (arg1.view.readAt (Elt Ideal) (Rect.unit (s := S2x256) ![0, 0] S2x256.size inb_S2x256_S2x256_0_0).toLoadRect (harg1.unread x0))) (d : Fin 3072) (t : Fin 256) :
    sout0_B_2 c i arg1 harg1 arg2 harg2 arg3 harg3 arg4 harg4 arg5 harg5 arg6 harg6 arg7 harg7 arg8 harg8 arg9 harg9 arg10 harg10 arg11 harg11 hc0 hc2 x0 x1 x2 x3 x4 x5 x6 hc1 (ix2 d t) = 0 := by
  unfold sout0_B_2
  frame_out
  pointwise [k0_pay4]

/-- A middle point whose expert some token chose adds its term. -/
theorem acc_C (c : Dev nD) (i : grid0.Coords) (arg1 : Memref sig .tc .vmem S2x256 .i32) (harg1 : arg1.IsWhole) (arg2 : Memref sig .tc .vmem S2x256 .f32) (harg2 : arg2.IsWhole) (arg3 : Memref sig .tc .vmem S1x2816x1 .f32) (harg3 : arg3.IsWhole) (arg4 : Memref sig .tc .vmem S1x3072x1 .f32) (harg4 : arg4.IsWhole) (arg5 : Memref sig .tc .vmem S256x3072 .bf16) (harg5 : arg5.IsWhole) (arg6 : Memref sig .tc .vmem S1x2816x3072 .i8) (harg6 : arg6.IsWhole) (arg7 : Memref sig .tc .vmem S1x3072x1408 .i8) (harg7 : arg7.IsWhole) (arg8 : Memref sig .tc .vmem S256x3072 .bf16) (harg8 : arg8.IsWhole) (arg9 : Memref sig .tc .vmem S2x704x128 .f32) (harg9 : arg9.IsWhole) (arg10 : Memref sig .tc .vmem S1408x256 .bf16) (harg10 : arg10.IsWhole) (arg11 : Memref sig .tc .vmem S3072x256 .f32) (harg11 : arg11.IsWhole) (hc0 : ¬cond0_0 i) (hc2 : ¬cond0_2 i)
    (x0 : Vec Ideal S2x256 .i32) (x1 : Vec Ideal S2x256 .f32) (x2 : Vec Ideal S1x2816x1 .f32) (x3 : Vec Ideal S1x3072x1 .f32) (x4 : Vec Ideal S256x3072 .bf16) (x5 : Vec Ideal S1x2816x3072 .i8) (x6 : Vec Ideal S1x3072x1408 .i8) (xs2 : Vec Ideal S3072x256 .f32) (hc1 : cond0_1 i (arg1.view.readAt (Elt Ideal) (Rect.unit (s := S2x256) ![0, 0] S2x256.size inb_S2x256_S2x256_0_0).toLoadRect (harg1.unread x0))) (d : Fin 3072) (t : Fin 256) :
    sout0_C_2 c i arg1 harg1 arg2 harg2 arg3 harg3 arg4 harg4 arg5 harg5 arg6 harg6 arg7 harg7 arg8 harg8 arg9 harg9 arg10 harg10 arg11 harg11 hc0 hc2 x0 x1 x2 x3 x4 x5 x6 xs2 hc1 (ix2 d t) = xs2 (ix2 d t) + term i x0 x1 x2 x3 x4 x5 x6 d t := by
  unfold sout0_C_2
  frame_out
  simp only [half00, half01, half10, half11]
  rw [hidden_read arg10.view (hid x2 x4 x5)]
  rotate_left
  · intro r t' hi hj
    pointwise [k0_pay32, k0_pay30, k0_pay28, k0_pay27, row0, row1]
    rw [← hid_eq x2 x4 x5 ⟨1056 + r.val, by omega⟩ ⟨128 + t'.val, by omega⟩ ⟨2112 + 2 * r.val, by omega⟩ ⟨2112 + (2 * r.val + 1), by omega⟩ ⟨128 + t'.val, by omega⟩ (by dsimp only; omega) (by dsimp only; omega) rfl]
  · intro r t' hi hj
    pointwise [k0_pay31, k0_pay29, k0_pay28, k0_pay27, row0, row1]
    rw [← hid_eq x2 x4 x5 ⟨1056 + r.val, by omega⟩ ⟨t'.val, by omega⟩ ⟨2112 + 2 * r.val, by omega⟩ ⟨2112 + (2 * r.val + 1), by omega⟩ ⟨t'.val, by omega⟩ (by dsimp only; omega) (by dsimp only; omega) rfl]
  · intro r t' hi hj
    pointwise [k0_pay26, k0_pay24, k0_pay23, k0_pay21, row0, row1]
    rw [← hid_eq x2 x4 x5 ⟨704 + r.val, by omega⟩ ⟨128 + t'.val, by omega⟩ ⟨1408 + 2 * r.val, by omega⟩ ⟨1408 + (2 * r.val + 1), by omega⟩ ⟨128 + t'.val, by omega⟩ (by dsimp only; omega) (by dsimp only; omega) rfl]
  · intro r t' hi hj
    pointwise [k0_pay25, k0_pay22, k0_pay21, row0, row1]
    rw [← hid_eq x2 x4 x5 ⟨704 + r.val, by omega⟩ ⟨t'.val, by omega⟩ ⟨1408 + 2 * r.val, by omega⟩ ⟨1408 + (2 * r.val + 1), by omega⟩ ⟨t'.val, by omega⟩ (by dsimp only; omega) (by dsimp only; omega) rfl]
  · intro r t' hi hj
    pointwise [k0_pay20, k0_pay16, k0_pay14, row0, row1]
    rw [← hid_eq x2 x4 x5 ⟨352 + r.val, by omega⟩ ⟨128 + t'.val, by omega⟩ ⟨704 + 2 * r.val, by omega⟩ ⟨704 + (2 * r.val + 1), by omega⟩ ⟨128 + t'.val, by omega⟩ (by dsimp only; omega) (by dsimp only; omega) rfl]
  · intro r t' hi hj
    pointwise [k0_pay19, k0_pay18, k0_pay17, k0_pay15, k0_pay14, row0, row1]
    rw [← hid_eq x2 x4 x5 ⟨352 + r.val, by omega⟩ ⟨t'.val, by omega⟩ ⟨704 + 2 * r.val, by omega⟩ ⟨704 + (2 * r.val + 1), by omega⟩ ⟨t'.val, by omega⟩ (by dsimp only; omega) (by dsimp only; omega) rfl]
  · intro r t' hi hj
    pointwise [k0_pay13, k0_pay12, k0_pay10, k0_pay8, row0, row1]
    rw [← hid_eq x2 x4 x5 ⟨r.val, by omega⟩ ⟨128 + t'.val, by omega⟩ ⟨2 * r.val, by omega⟩ ⟨2 * r.val + 1, by omega⟩ ⟨128 + t'.val, by omega⟩ rfl rfl rfl]
  · intro r t' hi hj
    pointwise [k0_pay11, k0_pay9, k0_pay8, row0, row1]
    rw [← hid_eq x2 x4 x5 ⟨r.val, by omega⟩ ⟨t'.val, by omega⟩ ⟨2 * r.val, by omega⟩ ⟨2 * r.val + 1, by omega⟩ ⟨t'.val, by omega⟩ rfl rfl rfl]
  refine acc_read (fun d t => xs2 (ix2 d t) + term i x0 x1 x2 x3 x4 x5 x6 d t) _ _ _ _ _ _ _ _ _ ?_ ?_ ?_ ?_ d t
  · intro r t' hi hj
    pointwise [k0_pay6, k0_pay38, term]
    simp only [weight, mul_comm (hid _ _ _ _ _)]
  · intro r t' hi hj
    pointwise [k0_pay37, term]
    simp only [weight, mul_comm (hid _ _ _ _ _)]
  · intro r t' hi hj
    pointwise [k0_pay36, k0_pay34, k0_pay35, term]
    simp only [weight, mul_comm (hid _ _ _ _ _)]
  · intro r t' hi hj
    pointwise [k0_pay33, term]
    simp only [weight, mul_comm (hid _ _ _ _ _)]

/-- A middle point whose expert no token chose adds nothing. -/
theorem acc_D (c : Dev nD) (i : grid0.Coords) (arg1 : Memref sig .tc .vmem S2x256 .i32) (harg1 : arg1.IsWhole) (arg2 : Memref sig .tc .vmem S2x256 .f32) (harg2 : arg2.IsWhole) (arg3 : Memref sig .tc .vmem S1x2816x1 .f32) (harg3 : arg3.IsWhole) (arg4 : Memref sig .tc .vmem S1x3072x1 .f32) (harg4 : arg4.IsWhole) (arg5 : Memref sig .tc .vmem S256x3072 .bf16) (harg5 : arg5.IsWhole) (arg6 : Memref sig .tc .vmem S1x2816x3072 .i8) (harg6 : arg6.IsWhole) (arg7 : Memref sig .tc .vmem S1x3072x1408 .i8) (harg7 : arg7.IsWhole) (arg8 : Memref sig .tc .vmem S256x3072 .bf16) (harg8 : arg8.IsWhole) (arg9 : Memref sig .tc .vmem S2x704x128 .f32) (harg9 : arg9.IsWhole) (arg10 : Memref sig .tc .vmem S1408x256 .bf16) (harg10 : arg10.IsWhole) (arg11 : Memref sig .tc .vmem S3072x256 .f32) (harg11 : arg11.IsWhole) (hc0 : ¬cond0_0 i) (hc2 : ¬cond0_2 i)
    (x0 : Vec Ideal S2x256 .i32) (x1 : Vec Ideal S2x256 .f32) (x2 : Vec Ideal S1x2816x1 .f32) (x3 : Vec Ideal S1x3072x1 .f32) (x4 : Vec Ideal S256x3072 .bf16) (x5 : Vec Ideal S1x2816x3072 .i8) (x6 : Vec Ideal S1x3072x1408 .i8) (xs2 : Vec Ideal S3072x256 .f32) (hc1 : ¬cond0_1 i (arg1.view.readAt (Elt Ideal) (Rect.unit (s := S2x256) ![0, 0] S2x256.size inb_S2x256_S2x256_0_0).toLoadRect (harg1.unread x0))) (d : Fin 3072) (t : Fin 256) :
    sout0_D_2 c i arg1 harg1 arg2 harg2 arg3 harg3 arg4 harg4 arg5 harg5 arg6 harg6 arg7 harg7 arg8 harg8 arg9 harg9 arg10 harg10 arg11 harg11 hc0 hc2 x0 x1 x2 x3 x4 x5 x6 xs2 hc1 (ix2 d t) = xs2 (ix2 d t) := by
  unfold sout0_D_2
  frame_out

/-- The last point adds its term if some token chose its expert, and stores the accumulator turned over. -/
theorem out_E (c : Dev nD) (i : grid0.Coords) (arg1 : Memref sig .tc .vmem S2x256 .i32) (harg1 : arg1.IsWhole) (arg2 : Memref sig .tc .vmem S2x256 .f32) (harg2 : arg2.IsWhole) (arg3 : Memref sig .tc .vmem S1x2816x1 .f32) (harg3 : arg3.IsWhole) (arg4 : Memref sig .tc .vmem S1x3072x1 .f32) (harg4 : arg4.IsWhole) (arg5 : Memref sig .tc .vmem S256x3072 .bf16) (harg5 : arg5.IsWhole) (arg6 : Memref sig .tc .vmem S1x2816x3072 .i8) (harg6 : arg6.IsWhole) (arg7 : Memref sig .tc .vmem S1x3072x1408 .i8) (harg7 : arg7.IsWhole) (arg8 : Memref sig .tc .vmem S256x3072 .bf16) (harg8 : arg8.IsWhole) (arg9 : Memref sig .tc .vmem S2x704x128 .f32) (harg9 : arg9.IsWhole) (arg10 : Memref sig .tc .vmem S1408x256 .bf16) (harg10 : arg10.IsWhole) (arg11 : Memref sig .tc .vmem S3072x256 .f32) (harg11 : arg11.IsWhole) (hc0 : ¬cond0_0 i) (hc2 : cond0_2 i)
    (x0 : Vec Ideal S2x256 .i32) (x1 : Vec Ideal S2x256 .f32) (x2 : Vec Ideal S1x2816x1 .f32) (x3 : Vec Ideal S1x3072x1 .f32) (x4 : Vec Ideal S256x3072 .bf16) (x5 : Vec Ideal S1x2816x3072 .i8) (x6 : Vec Ideal S1x3072x1408 .i8) (xs2 : Vec Ideal S3072x256 .f32) (hc1 : cond0_1 i (arg1.view.readAt (Elt Ideal) (Rect.unit (s := S2x256) ![0, 0] S2x256.size inb_S2x256_S2x256_0_0).toLoadRect (harg1.unread x0))) (d : Fin 3072) (t : Fin 256) :
    out0_E_7 c i arg1 harg1 arg2 harg2 arg3 harg3 arg4 harg4 arg5 harg5 arg6 harg6 arg7 harg7 arg8 harg8 arg9 harg9 arg10 harg10 arg11 harg11 hc0 hc2 x0 x1 x2 x3 x4 x5 x6 xs2 hc1 (ix2 t d) = xs2 (ix2 d t) + term i x0 x1 x2 x3 x4 x5 x6 d t := by
  unfold out0_E_7
  frame_out
  simp only [half00, half01, half10, half11]
  rw [hidden_read arg10.view (hid x2 x4 x5)]
  rotate_left
  · intro r t' hi hj
    pointwise [k0_pay32, k0_pay30, k0_pay28, k0_pay27, row0, row1]
    rw [← hid_eq x2 x4 x5 ⟨1056 + r.val, by omega⟩ ⟨128 + t'.val, by omega⟩ ⟨2112 + 2 * r.val, by omega⟩ ⟨2112 + (2 * r.val + 1), by omega⟩ ⟨128 + t'.val, by omega⟩ (by dsimp only; omega) (by dsimp only; omega) rfl]
  · intro r t' hi hj
    pointwise [k0_pay31, k0_pay29, k0_pay28, k0_pay27, row0, row1]
    rw [← hid_eq x2 x4 x5 ⟨1056 + r.val, by omega⟩ ⟨t'.val, by omega⟩ ⟨2112 + 2 * r.val, by omega⟩ ⟨2112 + (2 * r.val + 1), by omega⟩ ⟨t'.val, by omega⟩ (by dsimp only; omega) (by dsimp only; omega) rfl]
  · intro r t' hi hj
    pointwise [k0_pay26, k0_pay24, k0_pay23, k0_pay21, row0, row1]
    rw [← hid_eq x2 x4 x5 ⟨704 + r.val, by omega⟩ ⟨128 + t'.val, by omega⟩ ⟨1408 + 2 * r.val, by omega⟩ ⟨1408 + (2 * r.val + 1), by omega⟩ ⟨128 + t'.val, by omega⟩ (by dsimp only; omega) (by dsimp only; omega) rfl]
  · intro r t' hi hj
    pointwise [k0_pay25, k0_pay22, k0_pay21, row0, row1]
    rw [← hid_eq x2 x4 x5 ⟨704 + r.val, by omega⟩ ⟨t'.val, by omega⟩ ⟨1408 + 2 * r.val, by omega⟩ ⟨1408 + (2 * r.val + 1), by omega⟩ ⟨t'.val, by omega⟩ (by dsimp only; omega) (by dsimp only; omega) rfl]
  · intro r t' hi hj
    pointwise [k0_pay20, k0_pay16, k0_pay14, row0, row1]
    rw [← hid_eq x2 x4 x5 ⟨352 + r.val, by omega⟩ ⟨128 + t'.val, by omega⟩ ⟨704 + 2 * r.val, by omega⟩ ⟨704 + (2 * r.val + 1), by omega⟩ ⟨128 + t'.val, by omega⟩ (by dsimp only; omega) (by dsimp only; omega) rfl]
  · intro r t' hi hj
    pointwise [k0_pay19, k0_pay18, k0_pay17, k0_pay15, k0_pay14, row0, row1]
    rw [← hid_eq x2 x4 x5 ⟨352 + r.val, by omega⟩ ⟨t'.val, by omega⟩ ⟨704 + 2 * r.val, by omega⟩ ⟨704 + (2 * r.val + 1), by omega⟩ ⟨t'.val, by omega⟩ (by dsimp only; omega) (by dsimp only; omega) rfl]
  · intro r t' hi hj
    pointwise [k0_pay13, k0_pay12, k0_pay10, k0_pay8, row0, row1]
    rw [← hid_eq x2 x4 x5 ⟨r.val, by omega⟩ ⟨128 + t'.val, by omega⟩ ⟨2 * r.val, by omega⟩ ⟨2 * r.val + 1, by omega⟩ ⟨128 + t'.val, by omega⟩ rfl rfl rfl]
  · intro r t' hi hj
    pointwise [k0_pay11, k0_pay9, k0_pay8, row0, row1]
    rw [← hid_eq x2 x4 x5 ⟨r.val, by omega⟩ ⟨t'.val, by omega⟩ ⟨2 * r.val, by omega⟩ ⟨2 * r.val + 1, by omega⟩ ⟨t'.val, by omega⟩ rfl rfl rfl]
  pointwise [k0_pay7]
  refine acc_load arg11.view (fun d t => xs2 (ix2 d t) + term i x0 x1 x2 x3 x4 x5 x6 d t) _ _ _ _ _ _ _ _ _ ?_ ?_ ?_ ?_ d t
  · intro r t' hi hj
    pointwise [k0_pay6, k0_pay38, term]
    simp only [weight, mul_comm (hid _ _ _ _ _)]
  · intro r t' hi hj
    pointwise [k0_pay37, term]
    simp only [weight, mul_comm (hid _ _ _ _ _)]
  · intro r t' hi hj
    pointwise [k0_pay36, k0_pay34, k0_pay35, term]
    simp only [weight, mul_comm (hid _ _ _ _ _)]
  · intro r t' hi hj
    pointwise [k0_pay33, term]
    simp only [weight, mul_comm (hid _ _ _ _ _)]

/-- Otherwise it stores the accumulator as it was, turned over. -/
theorem out_F (c : Dev nD) (i : grid0.Coords) (arg1 : Memref sig .tc .vmem S2x256 .i32) (harg1 : arg1.IsWhole) (arg2 : Memref sig .tc .vmem S2x256 .f32) (harg2 : arg2.IsWhole) (arg3 : Memref sig .tc .vmem S1x2816x1 .f32) (harg3 : arg3.IsWhole) (arg4 : Memref sig .tc .vmem S1x3072x1 .f32) (harg4 : arg4.IsWhole) (arg5 : Memref sig .tc .vmem S256x3072 .bf16) (harg5 : arg5.IsWhole) (arg6 : Memref sig .tc .vmem S1x2816x3072 .i8) (harg6 : arg6.IsWhole) (arg7 : Memref sig .tc .vmem S1x3072x1408 .i8) (harg7 : arg7.IsWhole) (arg8 : Memref sig .tc .vmem S256x3072 .bf16) (harg8 : arg8.IsWhole) (arg9 : Memref sig .tc .vmem S2x704x128 .f32) (harg9 : arg9.IsWhole) (arg10 : Memref sig .tc .vmem S1408x256 .bf16) (harg10 : arg10.IsWhole) (arg11 : Memref sig .tc .vmem S3072x256 .f32) (harg11 : arg11.IsWhole) (hc0 : ¬cond0_0 i) (hc2 : cond0_2 i)
    (x0 : Vec Ideal S2x256 .i32) (x1 : Vec Ideal S2x256 .f32) (x2 : Vec Ideal S1x2816x1 .f32) (x3 : Vec Ideal S1x3072x1 .f32) (x4 : Vec Ideal S256x3072 .bf16) (x5 : Vec Ideal S1x2816x3072 .i8) (x6 : Vec Ideal S1x3072x1408 .i8) (xs2 : Vec Ideal S3072x256 .f32) (hc1 : ¬cond0_1 i (arg1.view.readAt (Elt Ideal) (Rect.unit (s := S2x256) ![0, 0] S2x256.size inb_S2x256_S2x256_0_0).toLoadRect (harg1.unread x0))) (d : Fin 3072) (t : Fin 256) :
    out0_F_7 c i arg1 harg1 arg2 harg2 arg3 harg3 arg4 harg4 arg5 harg5 arg6 harg6 arg7 harg7 arg8 harg8 arg9 harg9 arg10 harg10 arg11 harg11 hc0 hc2 x0 x1 x2 x3 x4 x5 x6 xs2 hc1 (ix2 t d) = xs2 (ix2 d t) := by
  unfold out0_F_7
  frame_out
  pointwise [k0_pay7]

end Cert.KernelIdeal.Layer

end
-- ==== Proof.Routing.lean ====
/-
  WHICH TOKENS A GRID POINT SERVES: the kernel's two counts of the choices that name the point's expert, read as plain
  statements about the identifiers, and the token's weight for that expert.
-/
module

public import proofs.«01_k».proof.Proof.Block
public import Idealize.ShloMosaic.Lib.IndicatorCount

@[expose] public section

set_option maxRecDepth 16384

noncomputable section

namespace Cert.KernelIdeal.Layer

open Cert.KernelIdeal Cert.KernelIdeal.Gen
open Idealize.ShloMosaic Idealize.ShloMosaic.TcCoe Idealize.SL.Sem
open Cert.Layer (ffn weight gateRow upRow part)

/-- A short count, compared with zero as a signed word, is positive when it is. -/
theorem count_pos {n : ℕ} (hn : n < 2 ^ 31) : IntOp.cmpi .sgt (BitVec.ofNat 32 n) 0#32 = 1#1 ↔ 0 < n := by
  rw [WordCmp.cmpi_sgt_ofNat hn (by decide)]
  by_cases h : 0 < n <;> simp [h]

/-- Comparing for equality gives the word 1 exactly on equal words. -/
theorem eq_word (x y : BitVec 32) : IntOp.cmpi .eq x y = 1#1 ↔ x = y := by
  rw [WordCmp.cmpi_eq_eq]
  by_cases h : x = y <;> simp [h]

/-- The token's weight for the point's expert: the sum of its weights for the choices that name it. -/
theorem share_eq (i : grid0.Coords) (x0 : IVec S2x256 32) (x1 : FVec Ideal S2x256 .f32) (t : Fin 256) :
    k0_pay2 (F := Ideal) i x0 x1 (ix2 0 t)
      = (if x0 (ix2 0 t) = BitVec.ofNat 32 (i 0).val then x1 (ix2 0 t) else 0)
        + (if x0 (ix2 1 t) = BitVec.ofNat 32 (i 0).val then x1 (ix2 1 t) else 0) := by
  pointwise [k0_pay2, k0_pay1]
  rw [Fin.sum_univ_two]
  simp only [Scalar.select, IntOp.cmpi, hlo_ix, beq_iff_eq]

/-- A token is served when one of its two choices names the point's expert. -/
theorem routed_iff (i : grid0.Coords) (x0 : IVec S2x256 32) (t : Fin 256) :
    k0_pay3 (F := Ideal) i x0 (ix2 0 t) = 1#1 ↔ x0 (ix2 0 t) = BitVec.ofNat 32 (i 0).val ∨ x0 (ix2 1 t) = BitVec.ofNat 32 (i 0).val := by
  pointwise [k0_pay3, k0_pay1]
  rw [IndicatorCount.fold_addi_setWidth_eq_card, count_pos (lt_of_le_of_lt (Finset.card_le_univ _) (by decide)), Finset.card_pos]
  simp only [Finset.Nonempty, Finset.mem_filter, Finset.mem_univ, true_and, Fin.exists_fin_two, eq_word]

/-- A point that skips its work: no token chose its expert. -/
theorem unrouted (i : grid0.Coords) (x0 : IVec S2x256 32) (h : ¬cond0_1 (F := Ideal) i x0) (k : Fin 2) (t : Fin 256) :
    x0 (ix2 k t) ≠ BitVec.ofNat 32 (i 0).val := by
  intro hk
  apply h
  unfold cond0_1
  pointwise [k0_pay5, k0_pay1]
  rw [IndicatorCount.fold_addi_setWidth_eq_card]
  set n := (Finset.filter (fun x : Fin 2 × Fin 256 => IntOp.cmpi .eq (x0 (ix2 x.1 x.2)) (BitVec.ofNat 32 (i 0).val) = 1#1) Finset.univ).card with hn
  have hc : IntOp.cmpi .sgt (BitVec.ofNat 32 n) 0#32 = 1#1 :=
    (count_pos (lt_of_le_of_lt (Finset.card_le_univ _) (by simp))).mpr
      (Finset.card_pos.mpr ⟨(k, t), Finset.mem_filter.mpr ⟨Finset.mem_univ _, (eq_word _ _).mpr hk⟩⟩)
  unfold Scalar.cmpi
  rw [hc]
  rfl

/-- The expert's network over one point's blocks. -/
abbrev net (x2 : FVec Ideal S1x2816x1 .f32) (x3 : FVec Ideal S1x3072x1 .f32) (x4 : FVec Ideal S256x3072 .bf16) (x5 : IVec S1x2816x3072 8)
    (x6 : IVec S1x3072x1408 8) (d : Fin 3072) (t : Fin 256) : EReal :=
  ffn (fun k => x4 (ix2 t k)) (fun f k => weight (x5 (ix3 0 (gateRow f) k))) (fun f k => weight (x5 (ix3 0 (upRow f) k)))
    (fun f => x2 (ix3 0 (gateRow f) 0)) (fun f => x2 (ix3 0 (upRow f) 0)) (fun f => weight (x6 (ix3 0 d f))) (x3 (ix3 0 d 0))

/-- THE TERM OF ONE POINT is the expert's part of the layer's sum. -/
theorem term_eq (i : grid0.Coords) (x0 : IVec S2x256 32) (x1 : FVec Ideal S2x256 .f32) (x2 : FVec Ideal S1x2816x1 .f32) (x3 : FVec Ideal S1x3072x1 .f32)
    (x4 : FVec Ideal S256x3072 .bf16) (x5 : IVec S1x2816x3072 8) (x6 : IVec S1x3072x1408 8) (d : Fin 3072) (t : Fin 256) :
    term i x0 x1 x2 x3 x4 x5 x6 d t
      = part (net x2 x3 x4 x5 x6 d t) (x0 (ix2 0 t)) (x0 (ix2 1 t)) (x1 (ix2 0 t)) (x1 (ix2 1 t)) (BitVec.ofNat 32 (i 0).val) := by
  unfold term part
  rw [share_eq]
  unfold Scalar.select
  by_cases h : k0_pay3 (F := Ideal) i x0 (ix2 0 t) = 1
  · rw [if_pos h, if_pos ((routed_iff i x0 t).mp h)]
    rfl
  · rw [if_neg h, if_neg fun h' => h ((routed_iff i x0 t).mpr h')]

/-- The part of a point that skips its work is zero. -/
theorem part_unrouted (i : grid0.Coords) (x0 : IVec S2x256 32) (h : ¬cond0_1 (F := Ideal) i x0) (y w₀ w₁ : EReal) (t : Fin 256) :
    part y (x0 (ix2 0 t)) (x0 (ix2 1 t)) w₀ w₁ (BitVec.ofNat 32 (i 0).val) = 0 := by
  unfold part
  rw [if_neg]
  rintro (h' | h')
  · exact unrouted i x0 h 0 t h'
  · exact unrouted i x0 h 1 t h'

end Cert.KernelIdeal.Layer

end
-- ==== Proof.Array.lean ====
/-
  WHAT THE KERNEL'S RESULT ARRAY HOLDS: the blocks each grid point sees, the accumulator after each point, and the
  array the last point stores: the layer's sum expert by expert (`Cert.Layer.byExpert`) over the argument arrays.
-/
module

public import proofs.«01_k».proof.Proof.Routing
public import proofs.«01_k».proof.Proof.Gen.KernelIdeal.Value
public import Idealize.ShloMosaic.Lib.Pipeline.ValueKit

@[expose] public section

set_option maxRecDepth 16384

noncomputable section

namespace Cert.KernelIdeal.Layer

open Cert.KernelIdeal Cert.KernelIdeal.Gen
open Idealize.ShloMosaic Idealize.ShloMosaic.TcCoe Idealize.SL.Sem
open Cert.Layer (ffn weight gateRow upRow part byExpert expert)

variable (m : (ℓ : Loc nD τ sig) → Buf (Elt Ideal) ℓ)

/-- Which block of its array each window shows at a point: the routing and the tokens whole, expert `t`'s part of the rest. -/
theorem idx : ∀ t : Fin cfg0.N, win0_0.index t = ![0, 0] ∧ win0_1.index t = ![0, 0] ∧ win0_2.index t = ![t.val, 0, 0]
    ∧ win0_3.index t = ![t.val, 0, 0] ∧ win0_4.index t = ![0, 0] ∧ win0_5.index t = ![t.val, 0, 0] ∧ win0_6.index t = ![t.val, 0, 0]
    ∧ win0_7.index t = ![0, 0] :=
  (by decide +kernel : ∀ t : Fin grid0.N, _)

/-- The point's expert, from its number. -/
theorem coord : ∀ t : Fin cfg0.N, (grid0.coords t 0).val = t.val :=
  (by decide +kernel : ∀ t : Fin grid0.N, _)

variable (c : Dev nD)

/-- A point's expert. -/
def exp (t : Fin cfg0.N) : Fin 4 := ⟨t.val, lt_of_lt_of_eq t.isLt N_0⟩

/-- What each block holds, of the argument arrays. -/
theorem blk0 (t : Fin cfg0.N) (k : Fin 2) (n : Fin 256) :
    iblk m c 0 t (ix2 k n) = m ((c : Thread nD τ).loc main_arg1) (ix3 n 0 k) := by
  blk_simp [iblk, idx t]; entry_read; pointwise; blk_ext [idx t]

theorem blk1 (t : Fin cfg0.N) (k : Fin 2) (n : Fin 256) :
    iblk m c 1 t (ix2 k n) = m ((c : Thread nD τ).loc main_arg2) (ix3 n 0 k) := by
  blk_simp [iblk, idx t]; entry_read; pointwise; blk_ext [idx t]

theorem blk2 (t : Fin cfg0.N) (f : Fin 2816) :
    iblk m c 2 t (ix3 0 f 0) = m ((c : Thread nD τ).loc main_arg4) (ix2 (exp t) f) := by
  blk_simp [iblk, idx t]; entry_read; pointwise; blk_ext [idx t] <;> rfl

theorem blk3 (t : Fin cfg0.N) (d : Fin 3072) :
    iblk m c 3 t (ix3 0 d 0) = m ((c : Thread nD τ).loc main_arg6) (ix2 (exp t) d) := by
  blk_simp [iblk, idx t]; entry_read; pointwise; blk_ext [idx t] <;> rfl

theorem blk4 (t : Fin cfg0.N) (n : Fin 256) (k : Fin 3072) :
    iblk m c 4 t (ix2 n k) = m ((c : Thread nD τ).loc main_arg0) (ix3 n 0 k) := by
  blk_simp [iblk, idx t]; entry_read; pointwise; blk_ext [idx t]

theorem blk5 (t : Fin cfg0.N) (f : Fin 2816) (k : Fin 3072) :
    iblk m c 5 t (ix3 0 f k) = m ((c : Thread nD τ).loc main_arg3) (ix3 (exp t) f k) := by
  blk_simp [iblk, idx t]; entry_read; pointwise; blk_ext [idx t] <;> rfl

theorem blk6 (t : Fin cfg0.N) (d : Fin 3072) (f : Fin 1408) :
    iblk m c 6 t (ix3 0 d f) = m ((c : Thread nD τ).loc main_arg5) (ix3 (exp t) d f) := by
  blk_simp [iblk, idx t]; entry_read; pointwise; blk_ext [idx t] <;> rfl

/-- The condition's read of the identifiers is the block of identifiers. -/
theorem ids_read (t : Fin cfg0.N) (x : Vec Ideal S2x256 .i32) :
    (ms0_0 t).view.readAt (Elt Ideal) (Rect.unit (s := S2x256) ![0, 0] S2x256.size inb_S2x256_S2x256_0_0).toLoadRect ((hs0_0 t).unread x) = x := by
  frame_out

/-- Expert `e` at token `t`, output coordinate `d`, of the argument arrays. -/
abbrev val (d : Fin 3072) (n : Fin 256) (e : Fin 4) : EReal :=
  expert (m ((c : Thread nD τ).loc main_arg0)) (m ((c : Thread nD τ).loc main_arg3)) (m ((c : Thread nD τ).loc main_arg4))
    (m ((c : Thread nD τ).loc main_arg5)) (m ((c : Thread nD τ).loc main_arg6)) e n d

/-- Its part of the token's sum. -/
abbrev share (d : Fin 3072) (n : Fin 256) (e : Fin 4) : EReal :=
  part (val m c d n e) (m ((c : Thread nD τ).loc main_arg1) (ix3 n 0 0)) (m ((c : Thread nD τ).loc main_arg1) (ix3 n 0 1))
    (m ((c : Thread nD τ).loc main_arg2) (ix3 n 0 0)) (m ((c : Thread nD τ).loc main_arg2) (ix3 n 0 1)) (BitVec.ofNat 32 e.val)

/-- A point's network over its blocks is its expert over the argument arrays. -/
theorem net_val (t : Fin cfg0.N) (d : Fin 3072) (n : Fin 256) :
    net (iblk m c 2 t) (iblk m c 3 t) (iblk m c 4 t) (iblk m c 5 t) (iblk m c 6 t) d n = val m c d n (exp t) := by
  simp only [net, blk2, blk3, blk4, blk5, blk6, val, expert]

/-- A point's term over its blocks is its expert's part. -/
theorem term_val (t : Fin cfg0.N) (d : Fin 3072) (n : Fin 256) :
    term (grid0.coords t) (iblk m c 0 t) (iblk m c 1 t) (iblk m c 2 t) (iblk m c 3 t) (iblk m c 4 t) (iblk m c 5 t) (iblk m c 6 t) d n
      = share m c d n (exp t) := by
  rw [term_eq, net_val, blk0, blk0, blk1, blk1, coord]
  rfl

/-- At a point that skips its work, the part is zero. -/
theorem share_skip (t : Fin cfg0.N) (d : Fin 3072) (n : Fin 256)
    (h : ¬cond0_1 (grid0.coords t) ((ms0_0 t).view.readAt (Elt Ideal) (Rect.unit (s := S2x256) ![0, 0] S2x256.size inb_S2x256_S2x256_0_0).toLoadRect ((hs0_0 t).unread (iblk m c 0 t)))) :
    share m c d n (exp t) = 0 := by
  rw [ids_read] at h
  have := part_unrouted (grid0.coords t) (iblk m c 0 t) h (val m c d n (exp t))
    (m ((c : Thread nD τ).loc main_arg2) (ix3 n 0 0)) (m ((c : Thread nD τ).loc main_arg2) (ix3 n 0 1)) n
  rw [blk0, blk0, coord] at this
  exact this

/-- THE ACCUMULATOR after the first point, -/
theorem acc_first (t : Fin cfg0.N) (h0 : t.val % 4 = 0) (d : Fin 3072) (n : Fin 256) :
    (outsAt0 m c t.val t.isLt).2 (ix2 d n) = share m c d n (exp t) := by
  have h2 : ¬t.val % 4 = 3 := by omega
  by_cases h1 : cond0_1 (grid0.coords t) ((ms0_0 t).view.readAt (Elt Ideal) (Rect.unit (s := S2x256) ![0, 0] S2x256.size inb_S2x256_S2x256_0_0).toLoadRect ((hs0_0 t).unread (iblk m c 0 t)))
  · rw [outsAt0_A m c t h0 h1 h2]
    dsimp only
    rw [acc_A, term_val]
  · rw [outsAt0_B m c t h0 h1 h2, share_skip m c t d n h1]
    dsimp only
    rw [acc_B]

/-- after a middle point, -/
theorem acc_mid (t : Fin cfg0.N) (h0 : ¬t.val % 4 = 0) (h2 : ¬t.val % 4 = 3) (d : Fin 3072) (n : Fin 256) :
    (outsAt0 m c t.val t.isLt).2 (ix2 d n) = (outsAt0 m c (t.val - 1) (lt_of_le_of_lt (Nat.sub_le _ _) t.isLt)).2 (ix2 d n) + share m c d n (exp t) := by
  by_cases h1 : cond0_1 (grid0.coords t) ((ms0_0 t).view.readAt (Elt Ideal) (Rect.unit (s := S2x256) ![0, 0] S2x256.size inb_S2x256_S2x256_0_0).toLoadRect ((hs0_0 t).unread (iblk m c 0 t)))
  · rw [outsAt0_C m c t h0 h1 h2]
    dsimp only
    rw [acc_C, term_val]
  · rw [outsAt0_D m c t h0 h1 h2, share_skip m c t d n h1, add_zero]
    dsimp only
    rw [acc_D]

/-- and what the last point stores of it. -/
theorem out_last (t : Fin cfg0.N) (h2 : t.val % 4 = 3) (d : Fin 3072) (n : Fin 256) :
    (outsAt0 m c t.val t.isLt).1 (ix2 n d) = (outsAt0 m c (t.val - 1) (lt_of_le_of_lt (Nat.sub_le _ _) t.isLt)).2 (ix2 d n) + share m c d n (exp t) := by
  have h0 : ¬t.val % 4 = 0 := by omega
  by_cases h1 : cond0_1 (grid0.coords t) ((ms0_0 t).view.readAt (Elt Ideal) (Rect.unit (s := S2x256) ![0, 0] S2x256.size inb_S2x256_S2x256_0_0).toLoadRect ((hs0_0 t).unread (iblk m c 0 t)))
  · rw [outsAt0_E m c t h0 h1 h2]
    dsimp only
    rw [out_E, term_val]
  · rw [outsAt0_F m c t h0 h1 h2, share_skip m c t d n h1, add_zero]
    dsimp only
    rw [out_F]

/-- The points before, by number. -/
theorem outs_congr {a b : ℕ} (h : a = b) (ha : a < cfg0.N) (hb : b < cfg0.N) : outsAt0 m c a ha = outsAt0 m c b hb := by
  subst h; rfl

/-- The last point's store, in full. -/
theorem point (d : Fin 3072) (n : Fin 256) :
    (outsAt0 m c t0_3.val t0_3.isLt).1 (ix2 n d)
      = byExpert (val m c d n) (m ((c : Thread nD τ).loc main_arg1) (ix3 n 0 0)) (m ((c : Thread nD τ).loc main_arg1) (ix3 n 0 1))
        (m ((c : Thread nD τ).loc main_arg2) (ix3 n 0 0)) (m ((c : Thread nD τ).loc main_arg2) (ix3 n 0 1)) := by
  have e3 := out_last m c t0_3 (by decide) d n
  have e2 := acc_mid m c t0_2 (by decide) (by decide) d n
  have e1 := acc_mid m c t0_1 (by decide) (by decide) d n
  have e0 := acc_first m c t0_0 (by decide) d n
  rw [outs_congr m c (show t0_3.val - 1 = t0_2.val from rfl) _ t0_2.isLt] at e3
  rw [outs_congr m c (show t0_2.val - 1 = t0_1.val from rfl) _ t0_1.isLt] at e2
  rw [outs_congr m c (show t0_1.val - 1 = t0_0.val from rfl) _ t0_0.isLt] at e1
  rw [e3, e2, e1, e0, show exp t0_0 = 0 from rfl, show exp t0_1 = 1 from rfl, show exp t0_2 = 2 from rfl, show exp t0_3 = 3 from rfl]
  rfl

/-- THE KERNEL'S RESULT: the layer's sum expert by expert over the argument arrays. -/
theorem final : (dats m 0 c).arrAt 7 cfg0.N = fun j : S256x3072.Idx =>
    byExpert (val m c (j 1) (j 0)) (m ((c : Thread nD τ).loc main_arg1) (ix3 (j 0) 0 0)) (m ((c : Thread nD τ).loc main_arg1) (ix3 (j 0) 0 1))
      (m ((c : Thread nD τ).loc main_arg2) (ix3 (j 0) 0 0)) (m ((c : Thread nD τ).loc main_arg2) (ix3 (j 0) 0 1)) := by
  refine (dats m 0 c).arrAt_eq_of_after_last 7 t0_3 (by decide +kernel) _ fun j => ?_
  blk_simp
  rw [after0_7]
  obtain ⟨n, d, rfl⟩ : ∃ (n : Fin 256) (d : Fin 3072), j = ix2 n d := ⟨j 0, j 1, by funext a; fin_cases a <;> rfl⟩
  exact point m c d n

end Cert.KernelIdeal.Layer

end
-- ==== Proof.Reference.lean ====
/-
  WHAT THE REFERENCE COMPUTES: its one kernel's result array, element by element, is the layer's sum choice by choice
  (`Cert.Layer.byChoice`) over the argument arrays.
-/
module

public import proofs.«01_k».proof.Proof.Layer
public import proofs.«01_k».proof.Proof.Gen.ReferenceIdeal.Value
public import Idealize.ShloMosaic.Lib.Pipeline.ValueKit

@[expose] public section

set_option maxRecDepth 16384

noncomputable section

namespace Cert.ReferenceIdeal.Layer

open Cert.ReferenceIdeal Cert.ReferenceIdeal.Gen
open Idealize.ShloMosaic Idealize.ShloMosaic.TcCoe Idealize.SL.Sem
open Cert.Layer (ffn weight pick byChoice expert gateRow upRow)

/-- One expert's network over blocks: the token's row, the expert's gate, up and second weights and their scales. -/
abbrev net (v0 : FVec Ideal S256x3072 .bf16) (vg : IVec S1x1408x3072 8) (sg : FVec Ideal S1x1408 .f32) (vu : IVec S1x1408x3072 8)
    (su : FVec Ideal S1x1408 .f32) (w2 : IVec S1x3072x1408 8) (s2 : FVec Ideal S1x3072 .f32) (t : Fin 256) (n : Fin 3072) : EReal :=
  ffn (fun k => v0 (ix2 t k)) (fun f k => weight (vg (ix3 0 f k))) (fun f k => weight (vu (ix3 0 f k)))
    (fun f => sg (ix2 0 f)) (fun f => su (ix2 0 f)) (fun f => weight (w2 (ix3 0 n f))) (s2 (ix2 0 n))

variable (v0 : FVec Ideal S256x3072 .bf16) (vg : IVec S1x1408x3072 8) (sg : FVec Ideal S1x1408 .f32) (vu : IVec S1x1408x3072 8) (su : FVec Ideal S1x1408 .f32) (w2 : IVec S1x3072x1408 8) (s2 : FVec Ideal S1x3072 .f32) (t : Fin 256) (n : Fin 3072)

/-- The four experts' payloads, which the printed body splits in four different ways, are that network. -/
theorem net0 : k0_pay3 (F := Ideal) v0 vg sg vu su w2 s2 (ix2 t n) = net v0 vg sg vu su w2 s2 t n := by
  pointwise [k0_pay3, k0_pay2]
  rfl

theorem net1 : k0_pay5 (F := Ideal) (k0_pay2 v0) (k0_pay4 vg) (constant S256x1408 .f32 0x00000000#32) sg vu su w2 s2 (ix2 t n)
    = net v0 vg sg vu su w2 s2 t n := by
  pointwise [k0_pay5, k0_pay4, k0_pay2]
  rfl

theorem net2 : k0_pay8 (F := Ideal) (k0_pay2 v0) (k0_pay6 (k0_pay2 v0) vg sg) (k0_pay7 (F := Ideal) vu) su w2 s2 (ix2 t n)
    = net v0 vg sg vu su w2 s2 t n := by
  pointwise [k0_pay8, k0_pay7, k0_pay6, k0_pay2]
  rfl

theorem net3 : k0_pay11 (F := Ideal) (k0_pay9 (k0_pay2 v0) vu su) (k0_pay10 (k0_pay2 v0) vg sg) w2 s2 (ix2 t n)
    = net v0 vg sg vu su w2 s2 t n := by
  pointwise [k0_pay11, k0_pay10, k0_pay9, k0_pay2]
  rfl

/-- A choice among the experts, as the body spells it with selects on comparisons. -/
theorem select_eq_pick (E : Fin 4 → EReal) (id : BitVec 32) :
    Scalar.select (IntOp.cmpi .eq id 3#32) (E 3) (Scalar.select (IntOp.cmpi .eq id 2#32) (E 2)
      (Scalar.select (IntOp.cmpi .eq id 1#32) (E 1) (Scalar.select (IntOp.cmpi .eq id 0#32) (E 0) 0))) = pick E id := by
  unfold pick
  simp only [Scalar.select, IntOp.cmpi, hlo_ix, beq_iff_eq]

/-- The experts over the reference's blocks. -/
abbrev nets (x0 : FVec Ideal S256x3072 .bf16) (x3 x4 : IVec S4x1408x3072 8) (x5 x6 : FVec Ideal S4x1408 .f32) (x7 : IVec S4x3072x1408 8)
    (x8 : FVec Ideal S4x3072 .f32) (t : Fin 256) (n : Fin 3072) (e : Fin 4) : EReal :=
  ffn (fun k => x0 (ix2 t k)) (fun f k => weight (x3 (ix3 e f k))) (fun f k => weight (x4 (ix3 e f k)))
    (fun f => x5 (ix2 e f)) (fun f => x6 (ix2 e f)) (fun f => weight (x7 (ix3 e n f))) (x8 (ix2 e n))

/-- WHAT THE BODY LEAVES of whole blocks, at one element. -/
theorem out_at (x0 : FVec Ideal S256x3072 .bf16) (x1 : IVec S256x2 32) (x2 : FVec Ideal S256x2 .f32) (x3 x4 : IVec S4x1408x3072 8)
    (x5 x6 : FVec Ideal S4x1408 .f32) (x7 : IVec S4x3072x1408 8) (x8 : FVec Ideal S4x3072 .f32) (t : Fin 256) (n : Fin 3072) :
    out0_9 (F := Ideal) x0 x1 x2 x3 x4 x5 x6 x7 x8 (ix2 t n)
      = byChoice (nets x0 x3 x4 x5 x6 x7 x8 t n) (x1 (ix2 t 0)) (x1 (ix2 t 1)) (x2 (ix2 t 0)) (x2 (ix2 t 1)) := by
  unfold_out out0_9
  frame_out
  pointwise [k0_pay1, k0_pay12, k0_pay13]
  simp only [net0, net1, net2, net3]
  rw [byChoice, ← select_eq_pick, ← select_eq_pick]
  pointwise [net, nets]

variable (m : (ℓ : Loc nD τ sig) → Buf (Elt Ideal) ℓ)

/-- Every window's block at the only grid point is its whole array. -/
theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0] ∧ win0_9.index t = ![0, 0] :=
  (by decide +kernel : ∀ t : Fin grid0.N, _)

variable (c : Dev nD)

/-- What each block holds, of the argument arrays. -/
theorem blk0 (t : Fin 256) (k : Fin 3072) :
    iblk m c 0 t0_0 (ix2 t k) = m ((c : Thread nD τ).loc main_arg0) (ix3 t 0 k) := by
  blk_simp [iblk, idx t0_0]; entry_read; pointwise; blk_ext [idx t0_0]

theorem blk1 (t : Fin 256) (k : Fin 2) :
    iblk m c 1 t0_0 (ix2 t k) = m ((c : Thread nD τ).loc main_arg1) (ix3 t 0 k) := by
  blk_simp [iblk, idx t0_0]; entry_read; pointwise; blk_ext [idx t0_0]

theorem blk2 (t : Fin 256) (k : Fin 2) :
    iblk m c 2 t0_0 (ix2 t k) = m ((c : Thread nD τ).loc main_arg2) (ix3 t 0 k) := by
  blk_simp [iblk, idx t0_0]; entry_read; pointwise; blk_ext [idx t0_0]

theorem blk3 (e : Fin 4) (f : Fin 1408) (k : Fin 3072) :
    iblk m c 3 t0_0 (ix3 e f k) = m ((c : Thread nD τ).loc main_arg3) (ix3 e (gateRow f) k) := by
  blk_simp [iblk, idx t0_0]; entry_read; pointwise; blk_ext [idx t0_0] <;> rfl

theorem blk4 (e : Fin 4) (f : Fin 1408) (k : Fin 3072) :
    iblk m c 4 t0_0 (ix3 e f k) = m ((c : Thread nD τ).loc main_arg3) (ix3 e (upRow f) k) := by
  blk_simp [iblk, idx t0_0]; entry_read; pointwise; blk_ext [idx t0_0] <;> exact Nat.add_comm _ _

theorem blk5 (e : Fin 4) (f : Fin 1408) :
    iblk m c 5 t0_0 (ix2 e f) = m ((c : Thread nD τ).loc main_arg4) (ix2 e (gateRow f)) := by
  blk_simp [iblk, idx t0_0]; entry_read; pointwise; blk_ext [idx t0_0] <;> rfl

theorem blk6 (e : Fin 4) (f : Fin 1408) :
    iblk m c 6 t0_0 (ix2 e f) = m ((c : Thread nD τ).loc main_arg4) (ix2 e (upRow f)) := by
  blk_simp [iblk, idx t0_0]; entry_read; pointwise; blk_ext [idx t0_0] <;> exact Nat.add_comm _ _

theorem blk7 (e : Fin 4) (n : Fin 3072) (f : Fin 1408) :
    iblk m c 7 t0_0 (ix3 e n f) = m ((c : Thread nD τ).loc main_arg5) (ix3 e n f) := by
  blk_simp [iblk, idx t0_0]; entry_read; pointwise; blk_ext [idx t0_0]

theorem blk8 (e : Fin 4) (n : Fin 3072) :
    iblk m c 8 t0_0 (ix2 e n) = m ((c : Thread nD τ).loc main_arg6) (ix2 e n) := by
  blk_simp [iblk, idx t0_0]; entry_read; pointwise; blk_ext [idx t0_0]

/-- What the body leaves at one element, over the argument arrays. -/
theorem point (t : Fin 256) (n : Fin 3072) :
    out0_9 (iblk m c 0 t0_0) (iblk m c 1 t0_0) (iblk m c 2 t0_0) (iblk m c 3 t0_0) (iblk m c 4 t0_0) (iblk m c 5 t0_0)
        (iblk m c 6 t0_0) (iblk m c 7 t0_0) (iblk m c 8 t0_0) (ix2 t n)
      = byChoice (fun e => expert (m ((c : Thread nD τ).loc main_arg0)) (m ((c : Thread nD τ).loc main_arg3)) (m ((c : Thread nD τ).loc main_arg4))
          (m ((c : Thread nD τ).loc main_arg5)) (m ((c : Thread nD τ).loc main_arg6)) e t n)
        (m ((c : Thread nD τ).loc main_arg1) (ix3 t 0 0)) (m ((c : Thread nD τ).loc main_arg1) (ix3 t 0 1))
        (m ((c : Thread nD τ).loc main_arg2) (ix3 t 0 0)) (m ((c : Thread nD τ).loc main_arg2) (ix3 t 0 1)) := by
  refine (out_at (iblk m c 0 t0_0) (iblk m c 1 t0_0) (iblk m c 2 t0_0) (iblk m c 3 t0_0) (iblk m c 4 t0_0) (iblk m c 5 t0_0)
        (iblk m c 6 t0_0) (iblk m c 7 t0_0) (iblk m c 8 t0_0) t n).trans ?_
  have h : nets (iblk m c 0 t0_0) (iblk m c 3 t0_0) (iblk m c 4 t0_0) (iblk m c 5 t0_0) (iblk m c 6 t0_0) (iblk m c 7 t0_0)
      (iblk m c 8 t0_0) t n = fun e => expert (m ((c : Thread nD τ).loc main_arg0)) (m ((c : Thread nD τ).loc main_arg3)) (m ((c : Thread nD τ).loc main_arg4))
          (m ((c : Thread nD τ).loc main_arg5)) (m ((c : Thread nD τ).loc main_arg6)) e t n := by
    funext e
    simp only [nets, blk0, blk3, blk4, blk5, blk6, blk7, blk8, expert]
  rw [h, blk1, blk1, blk2, blk2]

/-- THE REFERENCE'S RESULT: the layer's sum choice by choice over the argument arrays. -/
theorem final (c : Dev nD) : (dats m 0 c).arrAt 9 cfg0.N = fun j : S256x3072.Idx =>
    byChoice (expert (m ((c : Thread nD τ).loc main_arg0)) (m ((c : Thread nD τ).loc main_arg3)) (m ((c : Thread nD τ).loc main_arg4))
        (m ((c : Thread nD τ).loc main_arg5)) (m ((c : Thread nD τ).loc main_arg6)) · (j 0) (j 1))
      (m ((c : Thread nD τ).loc main_arg1) (ix3 (j 0) 0 0)) (m ((c : Thread nD τ).loc main_arg1) (ix3 (j 0) 0 1))
      (m ((c : Thread nD τ).loc main_arg2) (ix3 (j 0) 0 0)) (m ((c : Thread nD τ).loc main_arg2) (ix3 (j 0) 0 1)) := by
  refine (dats m 0 c).arrAt_eq_of_after_last 9 t0_0 (by decide +kernel) _ fun j => ?_
  blk_simp
  rw [after0_9]
  obtain ⟨t, n, rfl⟩ : ∃ (t : Fin 256) (n : Fin 3072), j = ix2 t n := ⟨j 0, j 1, by funext a; fin_cases a <;> rfl⟩
  exact point m c t n

end Cert.ReferenceIdeal.Layer

end
-- ==== Proof.Distinct.lean ====
/-
  WHAT THE PRECONDITION SAYS: the two slots of every token name two different experts.
-/
module

public import proofs.«01_k».proof.Pre_distinct_experts
public import Idealize.ShloMosaic.Lib.Pointwise

@[expose] public section

set_option maxRecDepth 16384

noncomputable section

namespace Cert.Pre_distinct_experts

open Idealize.ShloMosaic

/-- The side conditions the printed precondition states. -/
instance facts : Cert.Pre_distinct_experts.Facts where
  slices_S256x1x2_S256x1x1_0_0_0 := by decide
  shapeCasts_S256x1x1_S256x1 := by decide
  slices_S256x1x2_S256x1x1_0_0_1 := by decide

/-- Where the precondition holds, token `n` has two different experts. -/
theorem ne_of_fn [Facts] (a0 : FVec Ideal S256x1x3072 .bf16) (a1 : IVec S256x1x2 32) (a2 : FVec Ideal S256x1x2 .f32) (a3 : IVec S4x2816x3072 8)
    (a4 : FVec Ideal S4x2816 .f32) (a5 : IVec S4x3072x1408 8) (a6 : FVec Ideal S4x3072 .f32)
    (h : Cert.Pre_distinct_experts.fn (F := Ideal) a0 a1 a2 a3 a4 a5 a6 = fun _ => 1#1) (n : Fin 256) :
    a1 (ix3 n 0 0) ≠ a1 (ix3 n 0 1) := by
  have e := congrFun h (ix2 n 0)
  intro hn
  revert e
  pointwise [Cert.Pre_distinct_experts.fn]
  simp [hn, IntOp.cmpi]

end Cert.Pre_distinct_experts

end
-- ==== Proof.lean ====
/-
  THE CERTIFICATE: the three programs run and leave their arguments alone, and the kernel and the reference compute the
  same function over the extended reals where every token has two different experts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Array
public import proofs.«01_k».proof.Proof.Reference
public import proofs.«01_k».proof.Proof.Distinct
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's and the reference's result arrays are equal: the sum expert by expert is the sum slot by slot, since a
    token's two slots name different experts. -/
theorem algebraic : Cert.algebraic_KernelIdeal_ReferenceIdeal_pre_distinct_experts (hKernelIdeal := Cert.KernelIdeal.Gen.facts)
    (hReferenceIdeal := Cert.ReferenceIdeal.Gen.facts) (hPre_distinct_experts := Cert.Pre_distinct_experts.facts) := by
  pair_intro
  · run_from Cert.KernelIdeal.Gen.run_main m g
  · run_from Cert.ReferenceIdeal.Gen.run_main m' g'
    refine (Cert.ReferenceIdeal.Layer.final m' c).trans (Eq.trans ?_ (Cert.KernelIdeal.Layer.final m c).symm)
    obtain ⟨h0, h1, h2, h3, h4, h5, h6⟩ := hagree c
    rw [h0, h1, h2, h3, h4, h5, h6]
    funext j
    exact (Cert.Layer.byExpert_eq _ (Cert.Pre_distinct_experts.ne_of_fn _ _ _ _ _ _ _ (hpre c) (j 0)) _ _).symm

/-- Everything the certificate claims. -/
theorem claim : Cert.Claim :=
  ⟨Cert.Kernel.Gen.facts, Cert.KernelIdeal.Gen.facts, Cert.ReferenceIdeal.Gen.facts, Cert.Pre_distinct_experts.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
